-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_encoder_real [hPre_encoder_real : Cert.Pre_encoder_real.Facts] (m : (ℓ : Loc Cert.KernelIdeal.nD Cert.KernelIdeal.τ Cert.KernelIdeal.sig) → Buf (Elt Ideal) ℓ) : Prop :=
  ∀ c : Dev Cert.KernelIdeal.nD,
    (Cert.Pre_encoder_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_encoder_real [hPre_encoder_real : Cert.Pre_encoder_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_encoder_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_encoder_real [hKernelIdeal : Cert.KernelIdeal.Facts] [hPre_encoder_real : Cert.Pre_encoder_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_encoder_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_encoder_real [hReferenceIdeal : Cert.ReferenceIdeal.Facts] [hPre_encoder_real : Cert.Pre_encoder_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_encoder_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_encoder_real [hKernelIdeal : Cert.KernelIdeal.Facts] [hReferenceIdeal : Cert.ReferenceIdeal.Facts] [hPre_encoder_real : Cert.Pre_encoder_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_encoder_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_2)) (v2 : (c : Dev Cert.KernelIdeal.nD) → Buf (Elt Ideal) ((c.tc : Thread Cert.KernelIdeal.nD Cert.KernelIdeal.τ).loc Cert.KernelIdeal.main_v69_3)) (v3 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_2) = v1 c
          ∧ r.2.mem ((c.tc : Thread Cert.KernelIdeal.nD Cert.KernelIdeal.τ).loc Cert.KernelIdeal.main_v69_3) = v2 c
          ∧ r.2.mem ((c.tc : Thread Cert.KernelIdeal.nD Cert.KernelIdeal.τ).loc Cert.KernelIdeal.main_v69_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_v278) = v1 c
          ∧ r.2.mem ((c.tc : Thread Cert.ReferenceIdeal.nD Cert.ReferenceIdeal.τ).loc Cert.ReferenceIdeal.main_v279) = v2 c
          ∧ r.2.mem ((c.tc : Thread Cert.ReferenceIdeal.nD Cert.ReferenceIdeal.τ).loc Cert.ReferenceIdeal.main_v160) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_encoder_real : Cert.Pre_encoder_real.Facts),
    quiescent_Kernel (hKernel := hKernel)
    ∧ quiescent_KernelIdeal (hKernelIdeal := hKernelIdeal)
    ∧ quiescent_KernelIdeal_pre_encoder_real (hKernelIdeal := hKernelIdeal) (hPre_encoder_real := hPre_encoder_real)
    ∧ quiescent_ReferenceIdeal (hReferenceIdeal := hReferenceIdeal)
    ∧ quiescent_ReferenceIdeal_pre_encoder_real (hReferenceIdeal := hReferenceIdeal) (hPre_encoder_real := hPre_encoder_real)
    ∧ preserves_Kernel_KernelIdeal
    ∧ algebraic_KernelIdeal_ReferenceIdeal_pre_encoder_real (hKernelIdeal := hKernelIdeal) (hReferenceIdeal := hReferenceIdeal) (hPre_encoder_real := hPre_encoder_real)
-- ==== Pre_encoder_real.lean ====
abbrev S128x14x14x768 : Shape := ⟨4, ![128, 14, 14, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S1024x256 : Shape := ⟨2, ![1024, 256]⟩
abbrev S256x512 : Shape := ⟨2, ![256, 512]⟩
abbrev S512x768 : Shape := ⟨2, ![512, 768]⟩
abbrev S768 : Shape := ⟨1, ![768]⟩
abbrev S_ : Shape := ⟨0, ![]⟩

class Facts : Prop where
  bcast_S_S128x14x14x768 : S_.BroadcastsInDim S128x14x14x768 (![] : Fin 0 → Fin S128x14x14x768.rank)
  reducesTo_S128x14x14x768_S_d0_1_2_3 : S128x14x14x768.ReducesTo [0, 1, 2, 3] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S512x256 .f32) (main_arg5 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S128x14x14x768 .f32) (main_arg1 : FVec F S128x14x14x768 .f32) (main_arg2 : FVec F S768x512 .f32) (main_arg3 : FVec F S512 .f32) (main_arg4 : FVec F S512x256 .f32) (main_arg5 : FVec F S256 .f32) (main_arg6 : FVec F S1024x256 .f32) (main_arg7 : FVec F S256x512 .f32) (main_arg8 : FVec F S512 .f32) (main_arg9 : FVec F S512x768 .f32) (main_arg10 : FVec F S768 .f32) : IVec S_ 1 :=
  let main_v0 : FVec F S128x14x14x768 .f32 := Host.absf main_arg0
  let main_cst : FVec F S_ .f32 := constant S_ .f32 0x7F800000#32
  let main_v1 : FVec F S128x14x14x768 .f32 := broadcastInDim S128x14x14x768 ![] bcast_S_S128x14x14x768 main_cst
  let main_v2 : IVec S128x14x14x768 1 := cmpf .olt main_v0 main_v1
  let main_c : IVec S_ 1 := constantI S_ 1 1#1
  let main_v3 : IVec S_ 1 := (fun x v => Host.reduce IntOp.andi x v reducesTo_S128x14x14x768_S_d0_1_2_3 h_S_) main_v2 main_c
  let main_v4 : FVec F S128x14x14x768 .f32 := Host.absf main_arg1
  let main_cst_0 : FVec F S_ .f32 := constant S_ .f32 0x7F800000#32
  let main_v5 : FVec F S128x14x14x768 .f32 := broadcastInDim S128x14x14x768 ![] bcast_S_S128x14x14x768 main_cst_0
  let main_v6 : IVec S128x14x14x768 1 := cmpf .olt main_v4 main_v5
  let main_c_1 : IVec S_ 1 := constantI S_ 1 1#1
  let main_v7 : IVec S_ 1 := (fun x v => Host.reduce IntOp.andi x v reducesTo_S128x14x14x768_S_d0_1_2_3 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S128x14x14x768 : Shape := ⟨4, ![128, 14, 14, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S1024x256 : Shape := ⟨2, ![1024, 256]⟩
abbrev S256x512 : Shape := ⟨2, ![256, 512]⟩
abbrev S512x768 : Shape := ⟨2, ![512, 768]⟩
abbrev S768 : Shape := ⟨1, ![768]⟩
abbrev S16x196 : Shape := ⟨2, ![16, 196]⟩
abbrev S1x512 : Shape := ⟨2, ![1, 512]⟩
abbrev S2x512 : Shape := ⟨2, ![2, 512]⟩
abbrev S1x256 : Shape := ⟨2, ![1, 256]⟩
abbrev S1x768 : Shape := ⟨2, ![1, 768]⟩
abbrev S8x8 : Shape := ⟨2, ![8, 8]⟩
abbrev S_ : Shape := ⟨0, ![]⟩
abbrev S8x1x8x1 : Shape := ⟨4, ![8, 1, 8, 1]⟩
abbrev S1x16x1x196 : Shape := ⟨4, ![1, 16, 1, 196]⟩
abbrev S8x16x8x196 : Shape := ⟨4, ![8, 16, 8, 196]⟩
abbrev S128x1568 : Shape := ⟨2, ![128, 1568]⟩
abbrev S14 : Shape := ⟨1, ![14]⟩
abbrev S14x1 : Shape := ⟨2, ![14, 1]⟩
abbrev S4 : Shape := ⟨1, ![4]⟩
abbrev S1x4 : Shape := ⟨2, ![1, 4]⟩
abbrev S14x4 : Shape := ⟨2, ![14, 4]⟩
abbrev S14x1x4x1 : Shape := ⟨4, ![14, 1, 4, 1]⟩
abbrev S1x14x1x4 : Shape := ⟨4, ![1, 14, 1, 4]⟩
abbrev S14x14x4x4 : Shape := ⟨4, ![14, 14, 4, 4]⟩
abbrev S196x16 : Shape := ⟨2, ![196, 16]⟩
abbrev S1x196x1x16 : Shape := ⟨4, ![1, 196, 1, 16]⟩
abbrev S8x196x8x16 : Shape := ⟨4, ![8, 196, 8, 16]⟩
abbrev S1568x128 : Shape := ⟨2, ![1568, 128]⟩
abbrev S2048x1 : Shape := ⟨2, ![2048, 1]⟩
abbrev S1x1 : Shape := ⟨2, ![1, 1]⟩
abbrev S8x14x14x768 : Shape := ⟨4, ![8, 14, 14, 768]⟩
abbrev S128x1 : Shape := ⟨2, ![128, 1]⟩
abbrev S1x1024 : Shape := ⟨2, ![1, 1024]⟩
abbrev S1568x768 : Shape := ⟨2, ![1568, 768]⟩
abbrev S1568x512 : Shape := ⟨2, ![1568, 512]⟩
abbrev S1568x256 : Shape := ⟨2, ![1568, 256]⟩
abbrev S128x256 : Shape := ⟨2, ![128, 256]⟩
abbrev S256x1024 : Shape := ⟨2, ![256, 1024]⟩
abbrev S1024 : Shape := ⟨1, ![1024]⟩
abbrev S128x1024 : Shape := ⟨2, ![128, 1024]⟩
abbrev S128 : Shape := ⟨1, ![128]⟩
abbrev S1 : Shape := ⟨1, ![1]⟩
abbrev S128x512 : Shape := ⟨2, ![128, 512]⟩
abbrev S128x768 : Shape := ⟨2, ![128, 768]⟩

abbrev nBuf : Space → Nat
  | .hbm => 109
  | .vmem => 22
  | .smem => 0
  | _ => 0

abbrev bufTy : (tb : Table) → Fin (tcTables nBuf tb) → BufTy
  | .hbm, ⟨0, _⟩ => ⟨S128x14x14x768, .f32⟩
  | .hbm, ⟨1, _⟩ => ⟨S128x14x14x768, .f32⟩
  | .hbm, ⟨2, _⟩ => ⟨S768x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S1024x256, .f32⟩
  | .hbm, ⟨7, _⟩ => ⟨S256x512, .f32⟩
  | .hbm, ⟨8, _⟩ => ⟨S512, .f32⟩
  | .hbm, ⟨9, _⟩ => ⟨S512x768, .f32⟩
  | .hbm, ⟨10, _⟩ => ⟨S768, .f32⟩
  | .hbm, ⟨11, _⟩ => ⟨S16x196, .f32⟩
  | .hbm, ⟨12, _⟩ => ⟨S1x512, .f32⟩
  | .hbm, ⟨13, _⟩ => ⟨S1x512, .f32⟩
  | .hbm, ⟨14, _⟩ => ⟨S2x512, .f32⟩
  | .hbm, ⟨15, _⟩ => ⟨S1x256, .f32⟩
  | .hbm, ⟨16, _⟩ => ⟨S1x768, .f32⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .f32⟩
  | .hbm, ⟨24, _⟩ => ⟨S8x1x8x1, .f32⟩
  | .hbm, ⟨25, _⟩ => ⟨S1x16x1x196, .f32⟩
  | .hbm, ⟨26, _⟩ => ⟨S8x16x8x196, .f32⟩
  | .hbm, ⟨27, _⟩ => ⟨S8x16x8x196, .f32⟩
  | .hbm, ⟨28, _⟩ => ⟨S8x16x8x196, .f32⟩
  | .hbm, ⟨29, _⟩ => ⟨S128x1568, .f32⟩
  | .hbm, ⟨30, _⟩ => ⟨S14, .f32⟩
  | .hbm, ⟨31, _⟩ => ⟨S_, .f32⟩
  | .hbm, ⟨32, _⟩ => ⟨S14, .f32⟩
  | .hbm, ⟨33, _⟩ => ⟨S14, .f32⟩
  | .hbm, ⟨34, _⟩ => ⟨S_, .f32⟩
  | .hbm, ⟨35, _⟩ => ⟨S14, .f32⟩
  | .hbm, ⟨36, _⟩ => ⟨S14, .f32⟩
  | .hbm, ⟨37, _⟩ => ⟨S_, .f32⟩
  | .hbm, ⟨38, _⟩ => ⟨S14, .f32⟩
  | .hbm, ⟨39, _⟩ => ⟨S14, .f32⟩
  | .hbm, ⟨40, _⟩ => ⟨S14x1, .f32⟩
  | .hbm, ⟨41, _⟩ => ⟨S4, .f32⟩
  | .hbm, ⟨42, _⟩ => ⟨S1x4, .f32⟩
  | .hbm, ⟨43, _⟩ => ⟨S14x4, .f32⟩
  | .hbm, ⟨44, _⟩ => ⟨S14x4, .f32⟩
  | .hbm, ⟨45, _⟩ => ⟨S14x4, .f32⟩
  | .hbm, ⟨46, _⟩ => ⟨S14x4, .f32⟩
  | .hbm, ⟨47, _⟩ => ⟨S_, .f32⟩
  | .hbm, ⟨48, _⟩ => ⟨S14x4, .f32⟩
  | .hbm, ⟨49, _⟩ => ⟨S14x4, .f32⟩
  | .hbm, ⟨50, _⟩ => ⟨S_, .f32⟩
  | .hbm, ⟨51, _⟩ => ⟨S14x4, .f32⟩
  | .hbm, ⟨52, _⟩ => ⟨S14x4, .f32⟩
  | .hbm, ⟨53, _⟩ => ⟨S_, .f32⟩
  | .hbm, ⟨54, _⟩ => ⟨S14, .f32⟩
  | .hbm, ⟨55, _⟩ => ⟨S14x1, .f32⟩
  | .hbm, ⟨56, _⟩ => ⟨S14x4, .f32⟩
  | .hbm, ⟨57, _⟩ => ⟨S14x4, .f32⟩
  | .hbm, ⟨58, _⟩ => ⟨S14, .f32⟩
  | .hbm, ⟨59, _⟩ => ⟨S_, .f32⟩
  | .hbm, ⟨60, _⟩ => ⟨S14, .f32⟩
  | .hbm, ⟨61, _⟩ => ⟨S14, .f32⟩
  | .hbm, ⟨62, _⟩ => ⟨S_, .f32⟩
  | .hbm, ⟨63, _⟩ => ⟨S14, .f32⟩
  | .hbm, ⟨64, _⟩ => ⟨S14, .f32⟩
  | .hbm, ⟨65, _⟩ => ⟨S_, .f32⟩
  | .hbm, ⟨66, _⟩ => ⟨S14, .f32⟩
  | .hbm, ⟨67, _⟩ => ⟨S14, .f32⟩
  | .hbm, ⟨68, _⟩ => ⟨S14x1, .f32⟩
  | .hbm, ⟨69, _⟩ => ⟨S4, .f32⟩
  | .hbm, ⟨70, _⟩ => ⟨S1x4, .f32⟩
  | .hbm, ⟨71, _⟩ => ⟨S14x4, .f32⟩
  | .hbm, ⟨72, _⟩ => ⟨S14x4, .f32⟩
  | .hbm, ⟨73, _⟩ => ⟨S14x4, .f32⟩
  | .hbm, ⟨74, _⟩ => ⟨S14x4, .f32⟩
  | .hbm, ⟨75, _⟩ => ⟨S_, .f32⟩
  | .hbm, ⟨76, _⟩ => ⟨S14x4, .f32⟩
  | .hbm, ⟨77, _⟩ => ⟨S14x4, .f32⟩
  | .hbm, ⟨78, _⟩ => ⟨S_, .f32⟩
  | .hbm, ⟨79, _⟩ => ⟨S14x4, .f32⟩
  | .hbm, ⟨80, _⟩ => ⟨S14x4, .f32⟩
  | .hbm, ⟨81, _⟩ => ⟨S_, .f32⟩
  | .hbm, ⟨82, _⟩ => ⟨S14, .f32⟩
  | .hbm, ⟨83, _⟩ => ⟨S14x1, .f32⟩
  | .hbm, ⟨84, _⟩ => ⟨S14x4, .f32⟩
  | .hbm, ⟨85, _⟩ => ⟨S14x4, .f32⟩
  | .hbm, ⟨86, _⟩ => ⟨S14x1x4x1, .f32⟩
  | .hbm, ⟨87, _⟩ => ⟨S1x14x1x4, .f32⟩
  | .hbm, ⟨88, _⟩ => ⟨S14x14x4x4, .f32⟩
  | .hbm, ⟨89, _⟩ => ⟨S14x14x4x4, .f32⟩
  | .hbm, ⟨90, _⟩ => ⟨S14x14x4x4, .f32⟩
  | .hbm, ⟨91, _⟩ => ⟨S196x16, .f32⟩
  | .hbm, ⟨92, _⟩ => ⟨S8x8, .i32⟩
  | .hbm, ⟨93, _⟩ => ⟨S8x8, .i32⟩
  | .hbm, ⟨94, _⟩ => ⟨S_, .i32⟩
  | .hbm, ⟨95, _⟩ => ⟨S8x8, .i32⟩
  | .hbm, ⟨96, _⟩ => ⟨S8x8, .i32⟩
  | .hbm, ⟨97, _⟩ => ⟨S8x8, .i1⟩
  | .hbm, ⟨98, _⟩ => ⟨S8x8, .f32⟩
  | .hbm, ⟨99, _⟩ => ⟨S8x1x8x1, .f32⟩
  | .hbm, ⟨100, _⟩ => ⟨S1x196x1x16, .f32⟩
  | .hbm, ⟨101, _⟩ => ⟨S8x196x8x16, .f32⟩
  | .hbm, ⟨102, _⟩ => ⟨S8x196x8x16, .f32⟩
  | .hbm, ⟨103, _⟩ => ⟨S8x196x8x16, .f32⟩
  | .hbm, ⟨104, _⟩ => ⟨S1568x128, .f32⟩
  | .hbm, ⟨105, _⟩ => ⟨S128x14x14x768, .f32⟩
  | .hbm, ⟨106, _⟩ => ⟨S2048x1, .i32⟩
  | .hbm, ⟨107, _⟩ => ⟨S1x1, .f32⟩
  | .hbm, ⟨108, _⟩ => ⟨S1x1, .f32⟩
  | .local _ .vmem, ⟨0, _⟩ => ⟨S8x14x14x768, .f32⟩
  | .local _ .vmem, ⟨1, _⟩ => ⟨S8x14x14x768, .f32⟩
  | .local _ .vmem, ⟨2, _⟩ => ⟨S8x14x14x768, .f32⟩
  | .local _ .vmem, ⟨3, _⟩ => ⟨S8x14x14x768, .f32⟩
  | .local _ .vmem, ⟨4, _⟩ => ⟨S768x512, .f32⟩
  | .local _ .vmem, ⟨5, _⟩ => ⟨S2x512, .f32⟩
  | .local _ .vmem, ⟨6, _⟩ => ⟨S512x256, .f32⟩
  | .local _ .vmem, ⟨7, _⟩ => ⟨S1x256, .f32⟩
  | .local _ .vmem, ⟨8, _⟩ => ⟨S1024x256, .f32⟩
  | .local _ .vmem, ⟨9, _⟩ => ⟨S256x512, .f32⟩
  | .local _ .vmem, ⟨10, _⟩ => ⟨S512x768, .f32⟩
  | .local _ .vmem, ⟨11, _⟩ => ⟨S1x768, .f32⟩
  | .local _ .vmem, ⟨12, _⟩ => ⟨S128x1568, .f32⟩
  | .local _ .vmem, ⟨13, _⟩ => ⟨S1568x128, .f32⟩
  | .local _ .vmem, ⟨14, _⟩ => ⟨S8x14x14x768, .f32⟩
  | .local _ .vmem, ⟨15, _⟩ => ⟨S8x14x14x768, .f32⟩
  | .local _ .vmem, ⟨16, _⟩ => ⟨S128x1, .i32⟩
  | .local _ .vmem, ⟨17, _⟩ => ⟨S128x1, .i32⟩
  | .local _ .vmem, ⟨18, _⟩ => ⟨S1x1, .f32⟩
  | .local _ .vmem, ⟨19, _⟩ => ⟨S1x1, .f32⟩
  | .local _ .vmem, ⟨20, _⟩ => ⟨S1x1024, .f32⟩
  | .local _ .vmem, ⟨21, _⟩ => ⟨S1x1, .f32⟩
  | _, _ => ⟨S128x14x14x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_v68 : Ref sig .tc := ⟨.hbm, 104, rfl⟩
abbrev main_v69_0 : Ref sig .tc := ⟨.hbm, 105, rfl⟩
abbrev main_v69_1 : Ref sig .tc := ⟨.hbm, 106, rfl⟩
abbrev main_v69_2 : Ref sig .tc := ⟨.hbm, 107, rfl⟩
abbrev main_v69_3 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg15_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem15_0 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v98 : BitVec 1 := Scalar.cmpi .eq arg0 c15_i32
  let v99 : BitVec 32 := Scalar.extui v98
  let c0_i32_63 : BitVec 32 := 0#32
  let v100 : BitVec 1 := Scalar.cmpi .ne v99 c0_i32_63
  v100

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x14x14x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x14x14x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1568 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1568x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x14x14x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S128x14x14x768 : Shape := ⟨4, ![128, 14, 14, 768]⟩
abbrev S768x512 : Shape := ⟨2, ![768, 512]⟩
abbrev S512 : Shape := ⟨1, ![512]⟩
abbrev S512x256 : Shape := ⟨2, ![512, 256]⟩
abbrev S256 : Shape := ⟨1, ![256]⟩
abbrev S1024x256 : Shape := ⟨2, ![1024, 256]⟩
abbrev S256x512 : Shape := ⟨2, ![256, 512]⟩
abbrev S512x768 : Shape := ⟨2, ![512, 768]⟩
abbrev S768 : Shape := ⟨1, ![768]⟩
abbrev S128x14x14x512 : Shape := ⟨4, ![128, 14, 14, 512]⟩
abbrev S1x1x1x512 : Shape := ⟨4, ![1, 1, 1, 512]⟩
abbrev S_ : Shape := ⟨0, ![]⟩
abbrev S128x14x14x256 : Shape := ⟨4, ![128, 14, 14, 256]⟩
abbrev S1x1x1x256 : Shape := ⟨4, ![1, 1, 1, 256]⟩
abbrev S128x256x14x14 : Shape := ⟨4, ![128, 256, 14, 14]⟩
abbrev S128x256x4x4 : Shape := ⟨4, ![128, 256, 4, 4]⟩
abbrev S128x256x4 : Shape := ⟨3, ![128, 256, 4]⟩
abbrev S128x256 : Shape := ⟨2, ![128, 256]⟩
abbrev S128x256x1 : Shape := ⟨3, ![128, 256, 1]⟩
abbrev S128x256x1x4 : Shape := ⟨4, ![128, 256, 1, 4]⟩
abbrev S128x4x4x256 : Shape := ⟨4, ![128, 4, 4, 256]⟩
abbrev S128x16x256 : Shape := ⟨3, ![128, 16, 256]⟩
abbrev S2048x256 : Shape := ⟨2, ![2048, 256]⟩
abbrev S2048 : Shape := ⟨1, ![2048]⟩
abbrev S2048x1 : Shape := ⟨2, ![2048, 1]⟩
abbrev S256x1024 : Shape := ⟨2, ![256, 1024]⟩
abbrev S2048x1024 : Shape := ⟨2, ![2048, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S128x16x512 : Shape := ⟨3, ![128, 16, 512]⟩
abbrev S1x1x512 : Shape := ⟨3, ![1, 1, 512]⟩
abbrev S128x16x768 : Shape := ⟨3, ![128, 16, 768]⟩
abbrev S1x1x768 : Shape := ⟨3, ![1, 1, 768]⟩
abbrev S128x4x4x768 : Shape := ⟨4, ![128, 4, 4, 768]⟩
abbrev S128x768x4x4 : Shape := ⟨4, ![128, 768, 4, 4]⟩
abbrev S14 : Shape := ⟨1, ![14]⟩
abbrev S4 : Shape := ⟨1, ![4]⟩
abbrev S1x14 : Shape := ⟨2, ![1, 14]⟩
abbrev S4x1 : Shape := ⟨2, ![4, 1]⟩
abbrev S4x14 : Shape := ⟨2, ![4, 14]⟩
abbrev S14x128x768x4 : Shape := ⟨4, ![14, 128, 768, 4]⟩
abbrev S14x128x768x14 : Shape := ⟨4, ![14, 128, 768, 14]⟩
abbrev S128x768x14x14 : Shape := ⟨4, ![128, 768, 14, 14]⟩

abbrev nBuf : Space → Nat
  | .hbm => 413
  | .vmem => 0
  | .smem => 0
  | _ => 0

abbrev hbmTy0_0 (i : Nat) : BufTy := match i % 128 with
  | 0 => ⟨S128x14x14x768, .f32⟩
  | 1 => ⟨S128x14x14x768, .f32⟩
  | 2 => ⟨S768x512, .f32⟩
  | 3 => ⟨S512, .f32⟩
  | 4 => ⟨S512x256, .f32⟩
  | 5 => ⟨S256, .f32⟩
  | 6 => ⟨S1024x256, .f32⟩
  | 7 => ⟨S256x512, .f32⟩
  | 8 => ⟨S512, .f32⟩
  | 9 => ⟨S512x768, .f32⟩
  | 10 => ⟨S768, .f32⟩
  | 11 => ⟨S128x14x14x768, .f32⟩
  | 12 => ⟨S128x14x14x512, .f32⟩
  | 13 => ⟨S1x1x1x512, .f32⟩
  | 14 => ⟨S128x14x14x512, .f32⟩
  | 15 => ⟨S128x14x14x512, .f32⟩
  | 16 => ⟨S_, .f32⟩
  | 17 => ⟨S128x14x14x512, .f32⟩
  | 18 => ⟨S128x14x14x512, .f32⟩
  | 19 => ⟨S128x14x14x512, .f32⟩
  | 20 => ⟨S_, .f32⟩
  | 21 => ⟨S128x14x14x512, .f32⟩
  | 22 => ⟨S128x14x14x512, .f32⟩
  | 23 => ⟨S128x14x14x512, .f32⟩
  | 24 => ⟨S128x14x14x512, .f32⟩
  | 25 => ⟨S128x14x14x256, .f32⟩
  | 26 => ⟨S1x1x1x256, .f32⟩
  | 27 => ⟨S128x14x14x256, .f32⟩
  | 28 => ⟨S128x14x14x256, .f32⟩
  | 29 => ⟨S128x256x14x14, .f32⟩
  | 30 => ⟨S128x256x4x4, .f32⟩
  | 31 => ⟨S_, .f32⟩
  | 32 => ⟨S128x256x4, .f32⟩
  | 33 => ⟨S_, .f32⟩
  | 34 => ⟨S128x256, .f32⟩
  | 35 => ⟨S_, .f32⟩
  | 36 => ⟨S128x256, .f32⟩
  | 37 => ⟨S128x256, .f32⟩
  | 38 => ⟨S128x256x4x4, .f32⟩
  | 39 => ⟨S_, .f32⟩
  | 40 => ⟨S128x256x4, .f32⟩
  | 41 => ⟨S_, .f32⟩
  | 42 => ⟨S128x256, .f32⟩
  | 43 => ⟨S_, .f32⟩
  | 44 => ⟨S128x256, .f32⟩
  | 45 => ⟨S128x256, .f32⟩
  | 46 => ⟨S128x256x4x4, .f32⟩
  | 47 => ⟨S_, .f32⟩
  | 48 => ⟨S128x256x4, .f32⟩
  | 49 => ⟨S_, .f32⟩
  | 50 => ⟨S128x256, .f32⟩
  | 51 => ⟨S_, .f32⟩
  | 52 => ⟨S128x256, .f32⟩
  | 53 => ⟨S128x256, .f32⟩
  | 54 => ⟨S128x256x4x4, .f32⟩
  | 55 => ⟨S_, .f32⟩
  | 56 => ⟨S128x256x4, .f32⟩
  | 57 => ⟨S_, .f32⟩
  | 58 => ⟨S128x256, .f32⟩
  | 59 => ⟨S_, .f32⟩
  | 60 => ⟨S128x256, .f32⟩
  | 61 => ⟨S128x256, .f32⟩
  | 62 => ⟨S128x256x1, .f32⟩
  | 63 => ⟨S128x256x1, .f32⟩
  | 64 => ⟨S128x256x1, .f32⟩
  | 65 => ⟨S128x256x1, .f32⟩
  | 66 => ⟨S128x256x4, .f32⟩
  | 67 => ⟨S128x256x4x4, .f32⟩
  | 68 => ⟨S_, .f32⟩
  | 69 => ⟨S128x256x4, .f32⟩
  | 70 => ⟨S_, .f32⟩
  | 71 => ⟨S128x256, .f32⟩
  | 72 => ⟨S_, .f32⟩
  | 73 => ⟨S128x256, .f32⟩
  | 74 => ⟨S128x256, .f32⟩
  | 75 => ⟨S128x256x4x4, .f32⟩
  | 76 => ⟨S_, .f32⟩
  | 77 => ⟨S128x256x4, .f32⟩
  | 78 => ⟨S_, .f32⟩
  | 79 => ⟨S128x256, .f32⟩
  | 80 => ⟨S_, .f32⟩
  | 81 => ⟨S128x256, .f32⟩
  | 82 => ⟨S128x256, .f32⟩
  | 83 => ⟨S128x256x4x4, .f32⟩
  | 84 => ⟨S_, .f32⟩
  | 85 => ⟨S128x256x4, .f32⟩
  | 86 => ⟨S_, .f32⟩
  | 87 => ⟨S128x256, .f32⟩
  | 88 => ⟨S_, .f32⟩
  | 89 => ⟨S128x256, .f32⟩
  | 90 => ⟨S128x256, .f32⟩
  | 91 => ⟨S128x256x4x4, .f32⟩
  | 92 => ⟨S_, .f32⟩
  | 93 => ⟨S128x256x4, .f32⟩
  | 94 => ⟨S_, .f32⟩
  | 95 => ⟨S128x256, .f32⟩
  | 96 => ⟨S_, .f32⟩
  | 97 => ⟨S128x256, .f32⟩
  | 98 => ⟨S128x256, .f32⟩
  | 99 => ⟨S128x256x1, .f32⟩
  | 100 => ⟨S128x256x1, .f32⟩
  | 101 => ⟨S128x256x1, .f32⟩
  | 102 => ⟨S128x256x1, .f32⟩
  | 103 => ⟨S128x256x4, .f32⟩
  | 104 => ⟨S128x256x4x4, .f32⟩
  | 105 => ⟨S_, .f32⟩
  | 106 => ⟨S128x256x4, .f32⟩
  | 107 => ⟨S_, .f32⟩
  | 108 => ⟨S128x256, .f32⟩
  | 109 => ⟨S_, .f32⟩
  | 110 => ⟨S128x256, .f32⟩
  | 111 => ⟨S128x256, .f32⟩
  | 112 => ⟨S128x256x4x4, .f32⟩
  | 113 => ⟨S_, .f32⟩
  | 114 => ⟨S128x256x4, .f32⟩
  | 115 => ⟨S_, .f32⟩
  | 116 => ⟨S128x256, .f32⟩
  | 117 => ⟨S_, .f32⟩
  | 118 => ⟨S128x256, .f32⟩
  | 119 => ⟨S128x256, .f32⟩
  | 120 => ⟨S128x256x4x4, .f32⟩
  | 121 => ⟨S_, .f32⟩
  | 122 => ⟨S128x256x4, .f32⟩
  | 123 => ⟨S_, .f32⟩
  | 124 => ⟨S128x256, .f32⟩
  | 125 => ⟨S_, .f32⟩
  | 126 => ⟨S128x256, .f32⟩
  | 127 => ⟨S128x256, .f32⟩
  | _ => ⟨S128x14x14x768, .f32⟩

abbrev hbmTy0_1 (i : Nat) : BufTy := match i % 128 with
  | 0 => ⟨S128x256x4x4, .f32⟩
  | 1 => ⟨S_, .f32⟩
  | 2 => ⟨S128x256x4, .f32⟩
  | 3 => ⟨S_, .f32⟩
  | 4 => ⟨S128x256, .f32⟩
  | 5 => ⟨S_, .f32⟩
  | 6 => ⟨S128x256, .f32⟩
  | 7 => ⟨S128x256, .f32⟩
  | 8 => ⟨S128x256x1, .f32⟩
  | 9 => ⟨S128x256x1, .f32⟩
  | 10 => ⟨S128x256x1, .f32⟩
  | 11 => ⟨S128x256x1, .f32⟩
  | 12 => ⟨S128x256x4, .f32⟩
  | 13 => ⟨S128x256x4x4, .f32⟩
  | 14 => ⟨S_, .f32⟩
  | 15 => ⟨S128x256x4, .f32⟩
  | 16 => ⟨S_, .f32⟩
  | 17 => ⟨S128x256, .f32⟩
  | 18 => ⟨S_, .f32⟩
  | 19 => ⟨S128x256, .f32⟩
  | 20 => ⟨S128x256, .f32⟩
  | 21 => ⟨S128x256x4x4, .f32⟩
  | 22 => ⟨S_, .f32⟩
  | 23 => ⟨S128x256x4, .f32⟩
  | 24 => ⟨S_, .f32⟩
  | 25 => ⟨S128x256, .f32⟩
  | 26 => ⟨S_, .f32⟩
  | 27 => ⟨S128x256, .f32⟩
  | 28 => ⟨S128x256, .f32⟩
  | 29 => ⟨S128x256x4x4, .f32⟩
  | 30 => ⟨S_, .f32⟩
  | 31 => ⟨S128x256x4, .f32⟩
  | 32 => ⟨S_, .f32⟩
  | 33 => ⟨S128x256, .f32⟩
  | 34 => ⟨S_, .f32⟩
  | 35 => ⟨S128x256, .f32⟩
  | 36 => ⟨S128x256, .f32⟩
  | 37 => ⟨S128x256x4x4, .f32⟩
  | 38 => ⟨S_, .f32⟩
  | 39 => ⟨S128x256x4, .f32⟩
  | 40 => ⟨S_, .f32⟩
  | 41 => ⟨S128x256, .f32⟩
  | 42 => ⟨S_, .f32⟩
  | 43 => ⟨S128x256, .f32⟩
  | 44 => ⟨S128x256, .f32⟩
  | 45 => ⟨S128x256x1, .f32⟩
  | 46 => ⟨S128x256x1, .f32⟩
  | 47 => ⟨S128x256x1, .f32⟩
  | 48 => ⟨S128x256x1, .f32⟩
  | 49 => ⟨S128x256x4, .f32⟩
  | 50 => ⟨S128x256x1x4, .f32⟩
  | 51 => ⟨S128x256x1x4, .f32⟩
  | 52 => ⟨S128x256x1x4, .f32⟩
  | 53 => ⟨S128x256x1x4, .f32⟩
  | 54 => ⟨S128x256x4x4, .f32⟩
  | 55 => ⟨S128x4x4x256, .f32⟩
  | 56 => ⟨S128x16x256, .f32⟩
  | 57 => ⟨S2048x256, .f32⟩
  | 58 => ⟨S2048x256, .f32⟩
  | 59 => ⟨S_, .f32⟩
  | 60 => ⟨S2048, .f32⟩
  | 61 => ⟨S2048x1, .f32⟩
  | 62 => ⟨S256x1024, .f32⟩
  | 63 => ⟨S2048x1024, .f32⟩
  | 64 => ⟨S_, .f32⟩
  | 65 => ⟨S2048x1024, .f32⟩
  | 66 => ⟨S2048x1024, .f32⟩
  | 67 => ⟨S2048x1024, .f32⟩
  | 68 => ⟨S2048x1024, .f32⟩
  | 69 => ⟨S1024x256, .f32⟩
  | 70 => ⟨S_, .f32⟩
  | 71 => ⟨S1024, .f32⟩
  | 72 => ⟨S1x1024, .f32⟩
  | 73 => ⟨S2048x1024, .f32⟩
  | 74 => ⟨S2048x1024, .f32⟩
  | 75 => ⟨S2048x1024, .f32⟩
  | 76 => ⟨S2048x1, .f32⟩
  | 77 => ⟨S2048x1, .i32⟩
  | 78 => ⟨S2048, .i32⟩
  | 79 => ⟨S2048x1, .i32⟩
  | 80 => ⟨S1x1024, .i32⟩
  | 81 => ⟨S2048x1024, .i32⟩
  | 82 => ⟨S2048x1024, .i32⟩
  | 83 => ⟨S2048x1024, .i1⟩
  | 84 => ⟨S2048x1024, .f32⟩
  | 85 => ⟨S_, .i32⟩
  | 86 => ⟨S2048, .i32⟩
  | 87 => ⟨S2048, .i1⟩
  | 88 => ⟨S_, .i32⟩
  | 89 => ⟨S2048, .i32⟩
  | 90 => ⟨S2048, .i32⟩
  | 91 => ⟨S2048, .i32⟩
  | 92 => ⟨S2048x1, .i32⟩
  | 93 => ⟨S1, .i32⟩
  | 94 => ⟨S_, .i32⟩
  | 95 => ⟨S2048x1, .i32⟩
  | 96 => ⟨S2048x1, .i1⟩
  | 97 => ⟨S1x1, .i32⟩
  | 98 => ⟨S2048x1, .i32⟩
  | 99 => ⟨S2048x1, .i1⟩
  | 100 => ⟨S2048x1, .i1⟩
  | 101 => ⟨S_, .i1⟩
  | 102 => ⟨S2048, .i1⟩
  | 103 => ⟨S2048x256, .f32⟩
  | 104 => ⟨S2048x256, .i1⟩
  | 105 => ⟨S_, .f32⟩
  | 106 => ⟨S2048x256, .f32⟩
  | 107 => ⟨S2048x256, .f32⟩
  | 108 => ⟨S2048x256, .f32⟩
  | 109 => ⟨S2048x256, .f32⟩
  | 110 => ⟨S_, .f32⟩
  | 111 => ⟨S_, .f32⟩
  | 112 => ⟨S_, .f32⟩
  | 113 => ⟨S_, .f32⟩
  | 114 => ⟨S2048x256, .f32⟩
  | 115 => ⟨S2048x256, .f32⟩
  | 116 => ⟨S_, .f32⟩
  | 117 => ⟨S1024, .f32⟩
  | 118 => ⟨S_, .f32⟩
  | 119 => ⟨S1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S1024, .f32⟩
  | 126 => ⟨S_, .f32⟩
  | 127 => ⟨S_, .f32⟩
  | _ => ⟨S128x14x14x768, .f32⟩

abbrev hbmTy0_2 (i : Nat) : BufTy := match i % 128 with
  | 0 => ⟨S_, .f32⟩
  | 1 => ⟨S_, .f32⟩
  | 2 => ⟨S128x16x256, .f32⟩
  | 3 => ⟨S2048x1, .i32⟩
  | 4 => ⟨S128x16x512, .f32⟩
  | 5 => ⟨S1x1x512, .f32⟩
  | 6 => ⟨S128x16x512, .f32⟩
  | 7 => ⟨S128x16x512, .f32⟩
  | 8 => ⟨S_, .f32⟩
  | 9 => ⟨S128x16x512, .f32⟩
  | 10 => ⟨S128x16x512, .f32⟩
  | 11 => ⟨S128x16x512, .f32⟩
  | 12 => ⟨S_, .f32⟩
  | 13 => ⟨S128x16x512, .f32⟩
  | 14 => ⟨S128x16x512, .f32⟩
  | 15 => ⟨S128x16x512, .f32⟩
  | 16 => ⟨S128x16x512, .f32⟩
  | 17 => ⟨S128x16x768, .f32⟩
  | 18 => ⟨S1x1x768, .f32⟩
  | 19 => ⟨S128x16x768, .f32⟩
  | 20 => ⟨S128x16x768, .f32⟩
  | 21 => ⟨S128x4x4x768, .f32⟩
  | 22 => ⟨S128x768x4x4, .f32⟩
  | 23 => ⟨S_, .f32⟩
  | 24 => ⟨S_, .f32⟩
  | 25 => ⟨S_, .f32⟩
  | 26 => ⟨S14, .f32⟩
  | 27 => ⟨S_, .f32⟩
  | 28 => ⟨S14, .f32⟩
  | 29 => ⟨S14, .f32⟩
  | 30 => ⟨S_, .f32⟩
  | 31 => ⟨S14, .f32⟩
  | 32 => ⟨S14, .f32⟩
  | 33 => ⟨S_, .f32⟩
  | 34 => ⟨S14, .f32⟩
  | 35 => ⟨S14, .f32⟩
  | 36 => ⟨S_, .f32⟩
  | 37 => ⟨S14, .f32⟩
  | 38 => ⟨S14, .f32⟩
  | 39 => ⟨S4, .f32⟩
  | 40 => ⟨S1x14, .f32⟩
  | 41 => ⟨S4x1, .f32⟩
  | 42 => ⟨S4x14, .f32⟩
  | 43 => ⟨S4x14, .f32⟩
  | 44 => ⟨S4x14, .f32⟩
  | 45 => ⟨S4x14, .f32⟩
  | 46 => ⟨S_, .f32⟩
  | 47 => ⟨S4x14, .f32⟩
  | 48 => ⟨S4x14, .f32⟩
  | 49 => ⟨S4x14, .f32⟩
  | 50 => ⟨S_, .f32⟩
  | 51 => ⟨S4x14, .f32⟩
  | 52 => ⟨S4x14, .f32⟩
  | 53 => ⟨S_, .f32⟩
  | 54 => ⟨S4x14, .f32⟩
  | 55 => ⟨S4x14, .f32⟩
  | 56 => ⟨S_, .f32⟩
  | 57 => ⟨S14, .f32⟩
  | 58 => ⟨S1x14, .f32⟩
  | 59 => ⟨S1x14, .f32⟩
  | 60 => ⟨S_, .f32⟩
  | 61 => ⟨S1x14, .f32⟩
  | 62 => ⟨S1x14, .i1⟩
  | 63 => ⟨S_, .f32⟩
  | 64 => ⟨S1x14, .f32⟩
  | 65 => ⟨S1x14, .i1⟩
  | 66 => ⟨S_, .f32⟩
  | 67 => ⟨S1x14, .f32⟩
  | 68 => ⟨S1x14, .f32⟩
  | 69 => ⟨S4x14, .f32⟩
  | 70 => ⟨S4x14, .f32⟩
  | 71 => ⟨S4x14, .i1⟩
  | 72 => ⟨S_, .f32⟩
  | 73 => ⟨S4x14, .f32⟩
  | 74 => ⟨S4x14, .f32⟩
  | 75 => ⟨S_, .f32⟩
  | 76 => ⟨S14, .f32⟩
  | 77 => ⟨S14, .i1⟩
  | 78 => ⟨S_, .f32⟩
  | 79 => ⟨S14, .f32⟩
  | 80 => ⟨S14, .i1⟩
  | 81 => ⟨S14, .i1⟩
  | 82 => ⟨S1x14, .i1⟩
  | 83 => ⟨S4x14, .i1⟩
  | 84 => ⟨S_, .f32⟩
  | 85 => ⟨S4x14, .f32⟩
  | 86 => ⟨S4x14, .f32⟩
  | 87 => ⟨S_, .f32⟩
  | 88 => ⟨S_, .f32⟩
  | 89 => ⟨S_, .f32⟩
  | 90 => ⟨S14, .f32⟩
  | 91 => ⟨S_, .f32⟩
  | 92 => ⟨S14, .f32⟩
  | 93 => ⟨S14, .f32⟩
  | 94 => ⟨S_, .f32⟩
  | 95 => ⟨S14, .f32⟩
  | 96 => ⟨S14, .f32⟩
  | 97 => ⟨S_, .f32⟩
  | 98 => ⟨S14, .f32⟩
  | 99 => ⟨S14, .f32⟩
  | 100 => ⟨S_, .f32⟩
  | 101 => ⟨S14, .f32⟩
  | 102 => ⟨S14, .f32⟩
  | 103 => ⟨S4, .f32⟩
  | 104 => ⟨S1x14, .f32⟩
  | 105 => ⟨S4x1, .f32⟩
  | 106 => ⟨S4x14, .f32⟩
  | 107 => ⟨S4x14, .f32⟩
  | 108 => ⟨S4x14, .f32⟩
  | 109 => ⟨S4x14, .f32⟩
  | 110 => ⟨S_, .f32⟩
  | 111 => ⟨S4x14, .f32⟩
  | 112 => ⟨S4x14, .f32⟩
  | 113 => ⟨S4x14, .f32⟩
  | 114 => ⟨S_, .f32⟩
  | 115 => ⟨S4x14, .f32⟩
  | 116 => ⟨S4x14, .f32⟩
  | 117 => ⟨S_, .f32⟩
  | 118 => ⟨S4x14, .f32⟩
  | 119 => ⟨S4x14, .f32⟩
  | 120 => ⟨S_, .f32⟩
  | 121 => ⟨S14, .f32⟩
  | 122 => ⟨S1x14, .f32⟩
  | 123 => ⟨S1x14, .f32⟩
  | 124 => ⟨S_, .f32⟩
  | 125 => ⟨S1x14, .f32⟩
  | 126 => ⟨S1x14, .i1⟩
  | 127 => ⟨S_, .f32⟩
  | _ => ⟨S128x14x14x768, .f32⟩

abbrev hbmTy0_3 (i : Nat) : BufTy := match i % 128 with
  | 0 => ⟨S1x14, .f32⟩
  | 1 => ⟨S1x14, .i1⟩
  | 2 => ⟨S_, .f32⟩
  | 3 => ⟨S1x14, .f32⟩
  | 4 => ⟨S1x14, .f32⟩
  | 5 => ⟨S4x14, .f32⟩
  | 6 => ⟨S4x14, .f32⟩
  | 7 => ⟨S4x14, .i1⟩
  | 8 => ⟨S_, .f32⟩
  | 9 => ⟨S4x14, .f32⟩
  | 10 => ⟨S4x14, .f32⟩
  | 11 => ⟨S_, .f32⟩
  | 12 => ⟨S14, .f32⟩
  | 13 => ⟨S14, .i1⟩
  | 14 => ⟨S_, .f32⟩
  | 15 => ⟨S14, .f32⟩
  | 16 => ⟨S14, .i1⟩
  | 17 => ⟨S14, .i1⟩
  | 18 => ⟨S1x14, .i1⟩
  | 19 => ⟨S4x14, .i1⟩
  | 20 => ⟨S_, .f32⟩
  | 21 => ⟨S4x14, .f32⟩
  | 22 => ⟨S4x14, .f32⟩
  | 23 => ⟨S14x128x768x4, .f32⟩
  | 24 => ⟨S14x128x768x14, .f32⟩
  | 25 => ⟨S128x768x14x14, .f32⟩
  | 26 => ⟨S128x14x14x768, .f32⟩
  | 27 => ⟨S1x1, .f32⟩
  | 28 => ⟨S1x1, .f32⟩
  | _ => ⟨S128x14x14x768, .f32⟩

abbrev hbmTy (i : Nat) : BufTy := match i / 128 with
  | 0 => hbmTy0_0 i
  | 1 => hbmTy0_1 i
  | 2 => hbmTy0_2 i
  | 3 => hbmTy0_3 i
  | _ => ⟨S128x14x14x768, .f32⟩

abbrev bufTy : (tb : Table) → Fin (tcTables nBuf tb) → BufTy
  | .hbm, ⟨i, _⟩ => hbmTy i
  | _, _ => ⟨S128x14x14x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_cst_8 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_cst_11 : Ref sig .tc := ⟨.hbm, 57, rfl⟩
abbrev main_v34 : Ref sig .tc := ⟨.hbm, 58, rfl⟩
abbrev main_cst_12 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_13 : Ref sig .tc := ⟨.hbm, 68, rfl⟩
abbrev main_v43 : Ref sig .tc := ⟨.hbm, 69, rfl⟩
abbrev main_cst_14 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_16 : Ref sig .tc := ⟨.hbm, 76, rfl⟩
abbrev main_v48 : Ref sig .tc := ⟨.hbm, 77, rfl⟩
abbrev main_cst_17 : Ref sig .tc := ⟨.hbm, 78, rfl⟩
abbrev main_v49 : Ref sig .tc := ⟨.hbm, 79, rfl⟩
abbrev main_cst_18 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_19 : Ref sig .tc := ⟨.hbm, 84, rfl⟩
abbrev main_v53 : Ref sig .tc := ⟨.hbm, 85, rfl⟩
abbrev main_cst_20 : Ref sig .tc := ⟨.hbm, 86, rfl⟩
abbrev main_v54 : Ref sig .tc := ⟨.hbm, 87, rfl⟩
abbrev main_cst_21 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_22 : Ref sig .tc := ⟨.hbm, 92, rfl⟩
abbrev main_v58 : Ref sig .tc := ⟨.hbm, 93, rfl⟩
abbrev main_cst_23 : Ref sig .tc := ⟨.hbm, 94, rfl⟩
abbrev main_v59 : Ref sig .tc := ⟨.hbm, 95, rfl⟩
abbrev main_cst_24 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_25 : Ref sig .tc := ⟨.hbm, 105, rfl⟩
abbrev main_v68 : Ref sig .tc := ⟨.hbm, 106, rfl⟩
abbrev main_cst_26 : Ref sig .tc := ⟨.hbm, 107, rfl⟩
abbrev main_v69 : Ref sig .tc := ⟨.hbm, 108, rfl⟩
abbrev main_cst_27 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_28 : Ref sig .tc := ⟨.hbm, 113, rfl⟩
abbrev main_v73 : Ref sig .tc := ⟨.hbm, 114, rfl⟩
abbrev main_cst_29 : Ref sig .tc := ⟨.hbm, 115, rfl⟩
abbrev main_v74 : Ref sig .tc := ⟨.hbm, 116, rfl⟩
abbrev main_cst_30 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_31 : Ref sig .tc := ⟨.hbm, 121, rfl⟩
abbrev main_v78 : Ref sig .tc := ⟨.hbm, 122, rfl⟩
abbrev main_cst_32 : Ref sig .tc := ⟨.hbm, 123, rfl⟩
abbrev main_v79 : Ref sig .tc := ⟨.hbm, 124, rfl⟩
abbrev main_cst_33 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_34 : Ref sig .tc := ⟨.hbm, 129, rfl⟩
abbrev main_v83 : Ref sig .tc := ⟨.hbm, 130, rfl⟩
abbrev main_cst_35 : Ref sig .tc := ⟨.hbm, 131, rfl⟩
abbrev main_v84 : Ref sig .tc := ⟨.hbm, 132, rfl⟩
abbrev main_cst_36 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_37 : Ref sig .tc := ⟨.hbm, 142, rfl⟩
abbrev main_v93 : Ref sig .tc := ⟨.hbm, 143, rfl⟩
abbrev main_cst_38 : Ref sig .tc := ⟨.hbm, 144, rfl⟩
abbrev main_v94 : Ref sig .tc := ⟨.hbm, 145, rfl⟩
abbrev main_cst_39 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_40 : Ref sig .tc := ⟨.hbm, 150, rfl⟩
abbrev main_v98 : Ref sig .tc := ⟨.hbm, 151, rfl⟩
abbrev main_cst_41 : Ref sig .tc := ⟨.hbm, 152, rfl⟩
abbrev main_v99 : Ref sig .tc := ⟨.hbm, 153, rfl⟩
abbrev main_cst_42 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_cst_43 : Ref sig .tc := ⟨.hbm, 158, rfl⟩
abbrev main_v103 : Ref sig .tc := ⟨.hbm, 159, rfl⟩
abbrev main_cst_44 : Ref sig .tc := ⟨.hbm, 160, rfl⟩
abbrev main_v104 : Ref sig .tc := ⟨.hbm, 161, rfl⟩
abbrev main_cst_45 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_46 : Ref sig .tc := ⟨.hbm, 166, rfl⟩
abbrev main_v108 : Ref sig .tc := ⟨.hbm, 167, rfl⟩
abbrev main_cst_47 : Ref sig .tc := ⟨.hbm, 168, rfl⟩
abbrev main_v109 : Ref sig .tc := ⟨.hbm, 169, rfl⟩
abbrev main_cst_48 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_49 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_cst_50 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_cst_51 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_values : Ref sig .tc := ⟨.hbm, 204, rfl⟩
abbrev main_indices : Ref sig .tc := ⟨.hbm, 205, rfl⟩
abbrev main_v140 : Ref sig .tc := ⟨.hbm, 206, rfl⟩
abbrev main_call0_v0 : Ref sig .tc := ⟨.hbm, 207, rfl⟩
abbrev main_call0_v1 : Ref sig .tc := ⟨.hbm, 208, rfl⟩
abbrev main_call0_v2 : Ref sig .tc := ⟨.hbm, 209, rfl⟩
abbrev main_call0_v3 : Ref sig .tc := ⟨.hbm, 210, rfl⟩
abbrev main_call0_v4 : Ref sig .tc := ⟨.hbm, 211, rfl⟩
abbrev main_v141 : Ref sig .tc := ⟨.hbm, 212, rfl⟩
abbrev main_call1_c : Ref sig .tc := ⟨.hbm, 213, rfl⟩
abbrev main_call1_v0 : Ref sig .tc := ⟨.hbm, 214, rfl⟩
abbrev main_call1_v1 : Ref sig .tc := ⟨.hbm, 215, rfl⟩
abbrev main_call1_c_0 : Ref sig .tc := ⟨.hbm, 216, rfl⟩
abbrev main_call1_v2 : Ref sig .tc := ⟨.hbm, 217, rfl⟩
abbrev main_call1_v3 : Ref sig .tc := ⟨.hbm, 218, rfl⟩
abbrev main_call1_v4 : Ref sig .tc := ⟨.hbm, 219, rfl⟩
abbrev main_call1_v5 : Ref sig .tc := ⟨.hbm, 220, rfl⟩
abbrev main_call1_c_1 : Ref sig .tc := ⟨.hbm, 221, rfl⟩
abbrev main_call1_c_2 : Ref sig .tc := ⟨.hbm, 222, rfl⟩
abbrev main_call1_v6 : Ref sig .tc := ⟨.hbm, 223, rfl⟩
abbrev main_call1_v7 : Ref sig .tc := ⟨.hbm, 224, rfl⟩
abbrev main_call1_v8 : Ref sig .tc := ⟨.hbm, 225, rfl⟩
abbrev main_call1_v9 : Ref sig .tc := ⟨.hbm, 226, rfl⟩
abbrev main_call1_v10 : Ref sig .tc := ⟨.hbm, 227, rfl⟩
abbrev main_call1_v11 : Ref sig .tc := ⟨.hbm, 228, rfl⟩
abbrev main_call1_c_3 : Ref sig .tc := ⟨.hbm, 229, rfl⟩
abbrev main_call1_v12 : Ref sig .tc := ⟨.hbm, 230, rfl⟩
abbrev main_call1_v13 : Ref sig .tc := ⟨.hbm, 231, rfl⟩
abbrev main_call1_v14 : Ref sig .tc := ⟨.hbm, 232, rfl⟩
abbrev main_call1_cst : Ref sig .tc := ⟨.hbm, 233, rfl⟩
abbrev main_call1_v15 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_cst_52 : Ref sig .tc := ⟨.hbm, 238, rfl⟩
abbrev main_v145 : Ref sig .tc := ⟨.hbm, 239, rfl⟩
abbrev main_cst_53 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_cst_54 : Ref sig .tc := ⟨.hbm, 244, rfl⟩
abbrev main_v149 : Ref sig .tc := ⟨.hbm, 245, rfl⟩
abbrev main_cst_55 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_cst_57 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩
abbrev main_v164 : Ref sig .tc := ⟨.hbm, 263, rfl⟩
abbrev main_cst_58 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_cst_59 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_cst_60 : Ref sig .tc := ⟨.hbm, 279, rfl⟩
abbrev main_cst_61 : Ref sig .tc := ⟨.hbm, 280, rfl⟩
abbrev main_v178 : Ref sig .tc := ⟨.hbm, 281, rfl⟩
abbrev main_v179 : Ref sig .tc := ⟨.hbm, 282, rfl⟩
abbrev main_cst_62 : Ref sig .tc := ⟨.hbm, 283, rfl⟩
abbrev main_v180 : Ref sig .tc := ⟨.hbm, 284, rfl⟩
abbrev main_v181 : Ref sig .tc := ⟨.hbm, 285, rfl⟩
abbrev main_cst_63 : Ref sig .tc := ⟨.hbm, 286, rfl⟩
abbrev main_v182 : Ref sig .tc := ⟨.hbm, 287, rfl⟩
abbrev main_v183 : Ref sig .tc := ⟨.hbm, 288, rfl⟩
abbrev main_cst_64 : Ref sig .tc := ⟨.hbm, 289, rfl⟩
abbrev main_v184 : Ref sig .tc := ⟨.hbm, 290, rfl⟩
abbrev main_v185 : Ref sig .tc := ⟨.hbm, 291, rfl⟩
abbrev main_cst_65 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_cst_66 : Ref sig .tc := ⟨.hbm, 306, rfl⟩
abbrev main_v199 : Ref sig .tc := ⟨.hbm, 307, rfl⟩
abbrev main_v200 : Ref sig .tc := ⟨.hbm, 308, rfl⟩
abbrev main_cst_67 : Ref sig .tc := ⟨.hbm, 309, rfl⟩
abbrev main_v201 : Ref sig .tc := ⟨.hbm, 310, rfl⟩
abbrev main_v202 : Ref sig .tc := ⟨.hbm, 311, rfl⟩
abbrev main_cst_68 : Ref sig .tc := ⟨.hbm, 312, rfl⟩
abbrev main_v203 : Ref sig .tc := ⟨.hbm, 313, rfl⟩
abbrev main_v204 : Ref sig .tc := ⟨.hbm, 314, rfl⟩
abbrev main_v205 : Ref sig .tc := ⟨.hbm, 315, rfl⟩
abbrev main_cst_69 : Ref sig .tc := ⟨.hbm, 316, rfl⟩
abbrev main_v206 : Ref sig .tc := ⟨.hbm, 317, rfl⟩
abbrev main_v207 : Ref sig .tc := ⟨.hbm, 318, rfl⟩
abbrev main_cst_70 : Ref sig .tc := ⟨.hbm, 319, rfl⟩
abbrev main_v208 : Ref sig .tc := ⟨.hbm, 320, rfl⟩
abbrev main_v209 : Ref sig .tc := ⟨.hbm, 321, rfl⟩
abbrev main_cst_71 : Ref sig .tc := ⟨.hbm, 322, rfl⟩
abbrev main_v210 : Ref sig .tc := ⟨.hbm, 323, rfl⟩
abbrev main_v211 : Ref sig .tc := ⟨.hbm, 324, rfl⟩
abbrev main_v212 : Ref sig .tc := ⟨.hbm, 325, rfl⟩
abbrev main_v213 : Ref sig .tc := ⟨.hbm, 326, rfl⟩
abbrev main_v214 : Ref sig .tc := ⟨.hbm, 327, rfl⟩
abbrev main_cst_72 : Ref sig .tc := ⟨.hbm, 328, rfl⟩
abbrev main_v215 : Ref sig .tc := ⟨.hbm, 329, rfl⟩
abbrev main_v216 : Ref sig .tc := ⟨.hbm, 330, rfl⟩
abbrev main_cst_73 : Ref sig .tc := ⟨.hbm, 331, rfl⟩
abbrev main_v217 : Ref sig .tc := ⟨.hbm, 332, rfl⟩
abbrev main_v218 : Ref sig .tc := ⟨.hbm, 333, rfl⟩
abbrev main_cst_74 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_cst_75 : Ref sig .tc := ⟨.hbm, 340, rfl⟩
abbrev main_v224 : Ref sig .tc := ⟨.hbm, 341, rfl⟩
abbrev main_v225 : Ref sig .tc := ⟨.hbm, 342, rfl⟩
abbrev main_cst_76 : Ref sig .tc := ⟨.hbm, 343, rfl⟩
abbrev main_cst_77 : Ref sig .tc := ⟨.hbm, 344, rfl⟩
abbrev main_v226 : Ref sig .tc := ⟨.hbm, 345, rfl⟩
abbrev main_v227 : Ref sig .tc := ⟨.hbm, 346, rfl⟩
abbrev main_cst_78 : Ref sig .tc := ⟨.hbm, 347, rfl⟩
abbrev main_v228 : Ref sig .tc := ⟨.hbm, 348, rfl⟩
abbrev main_v229 : Ref sig .tc := ⟨.hbm, 349, rfl⟩
abbrev main_cst_79 : Ref sig .tc := ⟨.hbm, 350, rfl⟩
abbrev main_v230 : Ref sig .tc := ⟨.hbm, 351, rfl⟩
abbrev main_v231 : Ref sig .tc := ⟨.hbm, 352, rfl⟩
abbrev main_cst_80 : Ref sig .tc := ⟨.hbm, 353, rfl⟩
abbrev main_v232 : Ref sig .tc := ⟨.hbm, 354, rfl⟩
abbrev main_v233 : Ref sig .tc := ⟨.hbm, 355, rfl⟩
abbrev main_cst_81 : Ref sig .tc := ⟨.hbm, 356, rfl⟩
abbrev main_v234 : Ref sig .tc := ⟨.hbm, 357, rfl⟩
abbrev main_v235 : Ref sig .tc := ⟨.hbm, 358, rfl⟩
abbrev main_v236 : Ref sig .tc := ⟨.hbm, 359, rfl⟩
abbrev main_v237 : Ref sig .tc := ⟨.hbm, 360, rfl⟩
abbrev main_v238 : Ref sig .tc := ⟨.hbm, 361, rfl⟩
abbrev main_v239 : Ref sig .tc := ⟨.hbm, 362, rfl⟩
abbrev main_v240 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_v244 : Ref sig .tc := ⟨.hbm, 367, rfl⟩
abbrev main_v245 : Ref sig .tc := ⟨.hbm, 368, rfl⟩
abbrev main_v246 : Ref sig .tc := ⟨.hbm, 369, rfl⟩
abbrev main_cst_82 : Ref sig .tc := ⟨.hbm, 370, rfl⟩
abbrev main_v247 : Ref sig .tc := ⟨.hbm, 371, rfl⟩
abbrev main_v248 : Ref sig .tc := ⟨.hbm, 372, rfl⟩
abbrev main_cst_83 : Ref sig .tc := ⟨.hbm, 373, rfl⟩
abbrev main_v249 : Ref sig .tc := ⟨.hbm, 374, rfl⟩
abbrev main_v250 : Ref sig .tc := ⟨.hbm, 375, rfl⟩
abbrev main_cst_84 : Ref sig .tc := ⟨.hbm, 376, rfl⟩
abbrev main_v251 : Ref sig .tc := ⟨.hbm, 377, rfl⟩
abbrev main_v252 : Ref sig .tc := ⟨.hbm, 378, rfl⟩
abbrev main_v253 : Ref sig .tc := ⟨.hbm, 379, rfl⟩
abbrev main_cst_85 : Ref sig .tc := ⟨.hbm, 380, rfl⟩
abbrev main_v254 : Ref sig .tc := ⟨.hbm, 381, rfl⟩
abbrev main_v255 : Ref sig .tc := ⟨.hbm, 382, rfl⟩
abbrev main_cst_86 : Ref sig .tc := ⟨.hbm, 383, rfl⟩
abbrev main_v256 : Ref sig .tc := ⟨.hbm, 384, rfl⟩
abbrev main_v257 : Ref sig .tc := ⟨.hbm, 385, rfl⟩
abbrev main_cst_87 : Ref sig .tc := ⟨.hbm, 386, rfl⟩
abbrev main_v258 : Ref sig .tc := ⟨.hbm, 387, rfl⟩
abbrev main_v259 : Ref sig .tc := ⟨.hbm, 388, rfl⟩
abbrev main_v260 : Ref sig .tc := ⟨.hbm, 389, rfl⟩
abbrev main_v261 : Ref sig .tc := ⟨.hbm, 390, rfl⟩
abbrev main_v262 : Ref sig .tc := ⟨.hbm, 391, rfl⟩
abbrev main_cst_88 : Ref sig .tc := ⟨.hbm, 392, rfl⟩
abbrev main_v263 : Ref sig .tc := ⟨.hbm, 393, rfl⟩
abbrev main_v264 : Ref sig .tc := ⟨.hbm, 394, rfl⟩
abbrev main_cst_89 : Ref sig .tc := ⟨.hbm, 395, rfl⟩
abbrev main_v265 : Ref sig .tc := ⟨.hbm, 396, rfl⟩
abbrev main_v266 : Ref sig .tc := ⟨.hbm, 397, rfl⟩
abbrev main_cst_90 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_v271 : Ref sig .tc := ⟨.hbm, 403, rfl⟩
abbrev main_cst_91 : Ref sig .tc := ⟨.hbm, 404, rfl⟩
abbrev main_v272 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_v278 : Ref sig .tc := ⟨.hbm, 411, rfl⟩
abbrev main_v279 : Ref sig .tc := ⟨.hbm, 412, rfl⟩

abbrev nD : Nat := 1
abbrev τ : Topo := Topo.v7x

variable {F : FTy → Type} [FloatOps F]
-- ==== Proof.Least.lean ====
/-
  The first least position of a finite family of extended reals, and the two ways the programs find it: a fold of minima over masked
  column numbers, and the head of a stable sort.
-/
module

public import Idealize.ShloMosaic.PureOps
public import Idealize.ShloMosaic.PureOps.Reduce
public import Idealize.ShloMosaic.Lib.ValueIdx
public import Idealize.ShloMosaic.Lib.ValueIdxCoords
public import Idealize.ShloMosaic.Lib.WordArith
public import Mathlib.Data.EReal.Operations

@[expose] public section

noncomputable section

open scoped BigOperators

namespace Vq

open Idealize.ShloMosaic Idealize.ShloMosaic.ValueIdx

/-- `k` is the first position at which `f` is least. -/
def FirstLeast {n : ℕ} (f : Fin n → EReal) (k : Fin n) : Prop := (∀ j, f k ≤ f j) ∧ ∀ j, j < k → f k < f j

theorem FirstLeast.unique {n : ℕ} {f : Fin n → EReal} {k k' : Fin n} (h : FirstLeast f k) (h' : FirstLeast f k') : k = k' := by
  rcases lt_trichotomy k k' with hl | he | hl
  · exact absurd (h'.2 k hl) (not_lt.2 (h.1 k'))
  · exact he
  · exact absurd (h.2 k' hl) (not_lt.2 (h'.1 k))

theorem exists_firstLeast {n : ℕ} [NeZero n] (f : Fin n → EReal) : ∃ k, FirstLeast f k := by
  classical
  obtain ⟨k0, -, hk0⟩ := Finset.exists_min_image (Finset.univ : Finset (Fin n)) f ⟨0, Finset.mem_univ _⟩
  have hne : (Finset.univ.filter fun k : Fin n => f k = f k0).Nonempty := ⟨k0, by simp⟩
  refine ⟨(Finset.univ.filter fun k : Fin n => f k = f k0).min' hne, ?_, ?_⟩
  · intro j
    have := Finset.min'_mem _ hne
    rw [(Finset.mem_filter.1 this).2]
    exact hk0 j (Finset.mem_univ _)
  · intro j hj
    have hm := Finset.min'_mem _ hne
    rw [(Finset.mem_filter.1 hm).2]
    refine lt_of_le_of_ne (hk0 j (Finset.mem_univ _)) fun he => ?_
    exact absurd (Finset.min'_le _ j (Finset.mem_filter.2 ⟨Finset.mem_univ _, he.symm⟩)) (not_le.2 hj)

/-- The first position at which `f` is least. -/
def least {n : ℕ} [NeZero n] (f : Fin n → EReal) : Fin n := (exists_firstLeast f).choose

theorem least_spec {n : ℕ} [NeZero n] (f : Fin n → EReal) : FirstLeast f (least f) := (exists_firstLeast f).choose_spec

theorem FirstLeast.eq_least {n : ℕ} [NeZero n] {f : Fin n → EReal} {k : Fin n} (h : FirstLeast f k) : k = least f :=
  h.unique (least_spec f)

/-- Adding a real number to every entry moves no order, so it moves no first least position. -/
theorem FirstLeast.of_add_real {n : ℕ} {f g : Fin n → EReal} (r : ℝ) (hg : ∀ k, g k = (r : EReal) + f k) {k : Fin n}
    (h : FirstLeast g k) : FirstLeast f k := by
  have back : ∀ j, f j = ((-r : ℝ) : EReal) + g j := fun j => by
    rw [hg, ← add_assoc, ← EReal.coe_add, neg_add_cancel, EReal.coe_zero, zero_add]
  refine ⟨fun j => ?_, fun j hj => ?_⟩
  · rw [back k, back j]; exact add_le_add le_rfl (h.1 j)
  · refine lt_of_le_of_ne ?_ fun he => ?_
    · rw [back k, back j]; exact add_le_add le_rfl (h.1 j)
    · exact absurd (h.2 j hj) (by rw [hg, hg, he]; exact lt_irrefl _)

/-! ## The fold of minima -/

theorem fold_min_le {ι : Type} [DecidableEq ι] (s : Finset ι) (f : ι → EReal) : ∀ k ∈ s, s.fold min ⊤ f ≤ f k :=
  fun k hk => (Finset.le_fold_min _).1 le_rfl |>.2 k hk

theorem fold_min_mem {ι : Type} [DecidableEq ι] (s : Finset ι) (f : ι → EReal) : s.fold min ⊤ f = ⊤ ∨ ∃ k ∈ s, s.fold min ⊤ f = f k := by
  induction s using Finset.induction_on with
  | empty => exact Or.inl rfl
  | insert a s ha ih =>
    rw [Finset.fold_insert ha]
    rcases min_choice (f a) (s.fold min ⊤ f) with h | h
    · exact Or.inr ⟨a, Finset.mem_insert_self _ _, h⟩
    · rw [h]
      rcases ih with h' | ⟨k, hk, h'⟩
      · exact Or.inl h'
      · exact Or.inr ⟨k, Finset.mem_insert_of_mem hk, h'⟩

/-- The fold of minima over the whole family is the entry at the first least position. -/
theorem fold_min_eq_least {n : ℕ} [NeZero n] (f : Fin n → EReal) :
    (Finset.univ : Finset (Fin n)).fold min ⊤ f = f (least f) := by
  refine le_antisymm (fold_min_le _ f _ (Finset.mem_univ _)) ?_
  exact (Finset.le_fold_min _).2 ⟨le_top, fun k _ => (least_spec f).1 k⟩

/-- The signed fold of minima of words below `2 ^ 31` is the least of their numbers. -/
theorem toNat_fold_minsi {ι : Type} [DecidableEq ι] (s : Finset ι) (g : ι → ℕ) (hg : ∀ k ∈ s, g k < 2 ^ 31) :
    ((s.fold IntOp.minsi 2147483647#32 fun k => BitVec.ofNat 32 (g k)).toNat = s.fold min 2147483647 g)
      ∧ s.fold min 2147483647 g < 2 ^ 31 := by
  induction s using Finset.induction_on with
  | empty => exact ⟨rfl, show (2147483647 : ℕ) < 2 ^ 31 by norm_num⟩
  | insert a s ha ih =>
    obtain ⟨h1, h2⟩ := ih fun k hk => hg k (Finset.mem_insert_of_mem hk)
    have hga := hg a (Finset.mem_insert_self _ _)
    rw [Finset.fold_insert ha, Finset.fold_insert ha]
    have e : (BitVec.ofNat 32 (g a)).toNat = g a := by rw [BitVec.toNat_ofNat, Nat.mod_eq_of_lt (by omega)]
    refine ⟨?_, by omega⟩
    rw [WordArith.toNat_minsi_of_lt _ _ (by rw [e]; exact hga) (by rw [h1]; exact h2), e, h1]

/-- The least column number among the columns whose entry is the family's least, columns elsewhere counted as `n`, is the first least
    position. -/
theorem fold_minsi_eq_least {n : ℕ} [NeZero n] (hn : n < 2 ^ 31) (f : Fin n → EReal) :
    ((Finset.univ : Finset (Fin n)).fold IntOp.minsi 2147483647#32 fun k =>
        BitVec.ofNat 32 (if f k = f (least f) then k.val else n)) = BitVec.ofNat 32 (least f).val := by
  have hb : ∀ k ∈ (Finset.univ : Finset (Fin n)), (if f k = f (least f) then k.val else n) < 2 ^ 31 := fun k _ => by
    split
    · have := k.isLt; omega
    · exact hn
  obtain ⟨h1, -⟩ := toNat_fold_minsi Finset.univ (fun k : Fin n => if f k = f (least f) then k.val else n) hb
  apply BitVec.eq_of_toNat_eq
  have hl := (least f).isLt
  rw [h1, BitVec.toNat_ofNat, Nat.mod_eq_of_lt (by omega)]
  refine le_antisymm ?_ ?_
  · have := (Finset.le_fold_min (b := 2147483647) (s := (Finset.univ : Finset (Fin n)))
      (f := fun k : Fin n => if f k = f (least f) then k.val else n) _).1 le_rfl |>.2 (least f) (Finset.mem_univ _)
    simpa using this
  · refine (Finset.le_fold_min _).2 ⟨by omega, fun k _ => ?_⟩
    split
    · rename_i he
      by_contra hlt
      exact absurd ((least_spec f).2 k (by rw [Fin.lt_def]; omega)) (by rw [he]; exact lt_irrefl _)
    · omega

/-! ## The head of a stable sort -/

theorem head_stableSort {n : ℕ} (f : Fin n → EReal) (B : Fin n → Fin n → Bool) (hB : ∀ a b, B a b = true ↔ f a < f b) :
    ∀ l : List (Fin n), l.Pairwise (· < ·) → l ≠ [] →
      ∃ h t, stableSort B l = h :: t ∧ h ∈ l ∧ (∀ x ∈ l, f h ≤ f x) ∧ ∀ x ∈ l, x < h → f h < f x
  | [], _, hne => absurd rfl hne
  | [a], _, _ => ⟨a, [], rfl, List.mem_singleton.2 rfl, fun x hx => by rw [List.mem_singleton.1 hx],
      fun x hx hlt => absurd hlt (by rw [List.mem_singleton.1 hx]; exact lt_irrefl _)⟩
  | a :: b :: l, hp, _ => by
    obtain ⟨h, t, hs, hm, hle, hlt⟩ := head_stableSort f B hB (b :: l) (List.pairwise_cons.1 hp).2 (List.cons_ne_nil _ _)
    have ha := (List.pairwise_cons.1 hp).1
    have e : stableSort B (a :: b :: l) = insertBefore B a (stableSort B (b :: l)) := rfl
    rw [e, hs]
    by_cases hc : B h a = true
    · refine ⟨h, insertBefore B a t, by rw [insertBefore, if_pos hc], List.mem_cons_of_mem _ hm, fun x hx => ?_, fun x hx hxl => ?_⟩
      · rcases List.mem_cons.1 hx with rfl | hx
        · exact ((hB _ _).1 hc).le
        · exact hle x hx
      · rcases List.mem_cons.1 hx with rfl | hx
        · exact (hB _ _).1 hc
        · exact hlt x hx hxl
    · have hah : f a ≤ f h := not_lt.1 fun hl => hc ((hB _ _).2 hl)
      refine ⟨a, h :: t, by rw [insertBefore, if_neg hc], List.mem_cons_self, fun x hx => ?_, fun x hx hxl => ?_⟩
      · rcases List.mem_cons.1 hx with rfl | hx
        · exact le_rfl
        · exact hah.trans (hle x hx)
      · rcases List.mem_cons.1 hx with rfl | hx
        · exact absurd hxl (lt_irrefl _)
        · exact absurd (ha x hx) (not_lt.2 hxl.le)

/-- The element a stable sort by a strict order of keys puts first is at the first least position. -/
theorem sortedFrom_zero {n : ℕ} (hn : 0 < n) (f : Fin n → EReal) (B : Fin n → Fin n → Bool) (hB : ∀ a b, B a b = true ↔ f a < f b) :
    FirstLeast f (sortedFrom B ⟨0, hn⟩) := by
  have hne : List.finRange n ≠ [] := fun h => by
    have := List.length_finRange (n := n); rw [h] at this; simp at this; omega
  obtain ⟨h, t, hs, -, hle, hlt⟩ := head_stableSort f B hB (List.finRange n) (List.pairwise_lt_finRange n) hne
  have e : sortedFrom B ⟨0, hn⟩ = h := by
    unfold sortedFrom
    have : sortPositions n B = h :: t := hs
    simp [this]
  rw [e]
  exact ⟨fun j => hle j (List.mem_finRange j), fun j hj => hlt j (List.mem_finRange j) hj⟩

end Vq
-- ==== Proof.Spec.lean ====
/-
  The mathematics both programs compute, on extended reals: the two-layer network, the nearest code vector, the mean over a bin, the
  bilinear weights, and the four results as functions of the eleven arguments.
-/
module

public import Idealize.ShloMosaic.PureOps
public import Idealize.ShloMosaic.PureOps.Ideal
public import Idealize.ShloMosaic.Lib.Pointwise
public import proofs.«01_k».proof.Proof.Least

@[expose] public section

noncomputable section

open scoped BigOperators

namespace Vq

open Idealize.ShloMosaic

/-- One half, as the programs write it. -/
def half : EReal := Ideal.ofBits .f32 0x3F000000#32
/-- The square root of one half, as the programs write it. -/
def rsqrt2 : EReal := Ideal.ofBits .f32 0x3F3504F3#32
/-- The number added before the logarithm. -/
def tiny : EReal := Ideal.ofBits .f32 0x2EDBE6FF#32
/-- The ratio of the coarse grid's size to the fine grid's. -/
def ratio : EReal := Ideal.ofBits .f32 0x3E924925#32

theorem half_eq : half = ((1 / 2 : ℝ) : EReal) := by simp [half, Ideal.ofBits, Ideal.ieee, -EReal.coe_mul]; norm_num
theorem ratio_eq : ratio = ((9586981 / 33554432 : ℝ) : EReal) := by simp [ratio, Ideal.ofBits, Ideal.ieee, -EReal.coe_mul]; norm_num
theorem one_eq : Ideal.ofBits .f32 0x3F800000#32 = ((1 : ℝ) : EReal) := by simp [Ideal.ofBits, Ideal.ieee, -EReal.coe_mul]; norm_num
theorem two_eq : Ideal.ofBits .f32 0x40000000#32 = ((2 : ℝ) : EReal) := by simp [Ideal.ofBits, Ideal.ieee, -EReal.coe_mul]; norm_num

/-- The gated error unit `x/2 · (1 + erf (x/√2))`. -/
def gelu (x : EReal) : EReal := half * x * (1 + Ideal.erf (x * rsqrt2))

/-- Two dense layers with the gated error unit between them, at one row. -/
def mlp {D H E : ℕ} (w1 : Fin D → Fin H → EReal) (b1 : Fin H → EReal) (w2 : Fin H → Fin E → EReal) (b2 : Fin E → EReal)
    (x : Fin D → EReal) (e : Fin E) : EReal :=
  (∑ j, gelu ((∑ d, x d * w1 d j) + b1 j) * w2 j e) + b2 e

/-- The squared distance from `x` to code vector `k`, less the square of `x`. -/
def score {E K : ℕ} (cb : Fin K → Fin E → EReal) (x : Fin E → EReal) (k : Fin K) : EReal :=
  (∑ e, cb k e * cb k e) - ((2 : ℝ) : EReal) * ∑ e, x e * cb k e

/-- The first nearest code vector. -/
def near {E K : ℕ} [NeZero K] (cb : Fin K → Fin E → EReal) (x : Fin E → EReal) : Fin K := least (score cb x)

/-- A matrix as a function of row and column. -/
def cur {m n : ℕ} (a : (⟨2, ![m, n]⟩ : Shape).Idx → EReal) (i : Fin m) (j : Fin n) : EReal := a (ix2 i j)

/-- Where the four bins of an axis of fourteen start; each holds four positions. -/
def st : Fin 4 → ℕ := ![0, 3, 7, 10]

theorem st_lt (i p : Fin 4) : st i + p.val < 14 := by
  revert i p; decide

/-- The place of position `p` of bin `i`. -/
def pos (i p : Fin 4) : Fin 14 := ⟨st i + p.val, st_lt i p⟩

/-- The unnormalised weight of coarse place `i` at fine place `o`. -/
def tri (o : Fin 14) (i : Fin 4) : EReal :=
  max 0 (1 - max ((((o.val : ℝ) : EReal) + half) * ratio - half - ((i.val : ℝ) : EReal))
    (-((((o.val : ℝ) : EReal) + half) * ratio - half - ((i.val : ℝ) : EReal))))

/-- A whole number read from its word. -/
theorem sitofp_ofNat (n : ℕ) (h : n < 2147483648) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_eq_toNat_cond, BitVec.toNat_ofNat, Nat.mod_eq_of_lt (by omega), if_pos (by omega)]
  rw [this]
  simp

/-- The weight of coarse place `i` at fine place `o`. -/
def up (o : Fin 14) (i : Fin 4) : EReal := Ideal.div (tri o i) (∑ i', tri o i')

/-- The eleven arguments. -/
structure Args where
  t0 : (⟨4, ![128, 14, 14, 768]⟩ : Shape).Idx → EReal
  t1 : (⟨4, ![128, 14, 14, 768]⟩ : Shape).Idx → EReal
  w1 : (⟨2, ![768, 512]⟩ : Shape).Idx → EReal
  b1 : (⟨1, ![512]⟩ : Shape).Idx → EReal
  w2 : (⟨2, ![512, 256]⟩ : Shape).Idx → EReal
  b2 : (⟨1, ![256]⟩ : Shape).Idx → EReal
  cb : (⟨2, ![1024, 256]⟩ : Shape).Idx → EReal
  dw1 : (⟨2, ![256, 512]⟩ : Shape).Idx → EReal
  db1 : (⟨1, ![512]⟩ : Shape).Idx → EReal
  dw2 : (⟨2, ![512, 768]⟩ : Shape).Idx → EReal
  db2 : (⟨1, ![768]⟩ : Shape).Idx → EReal

namespace Args

variable (A : Args)

/-- The encoder at one place of one clip. -/
def enc (b : Fin 128) (h w : Fin 14) : Fin 256 → EReal :=
  mlp (cur A.w1) (fun j => A.b1 (ix1 j)) (cur A.w2) (fun e => A.b2 (ix1 e)) fun d => A.t1 (ix4 b h w d) - A.t0 (ix4 b h w d)

/-- The mean of a bin of one clip. -/
def bin (b : Fin 128) (i j : Fin 4) (e : Fin 256) : EReal :=
  (∑ p, ∑ q, A.enc b (pos i p) (pos j q) e) * ((1 / 16 : ℝ) : EReal)

/-- Row `n` of the 2048 bins. -/
def flat (n : Fin 2048) : Fin 256 → EReal :=
  A.bin ⟨n.val / 16, by have := n.isLt; omega⟩ ⟨n.val / 4 % 4, by omega⟩ ⟨n.val % 4, by omega⟩

/-- The code vector row `n` is nearest to. -/
def idx (n : Fin 2048) : Fin 1024 := near (cur A.cb) (A.flat n)

/-- Row `n` replaced by its code vector. -/
def code (n : Fin 2048) (e : Fin 256) : EReal := cur A.cb (A.idx n) e

/-- How many rows chose code vector `k`. -/
def hist (k : Fin 1024) : EReal := ∑ n : Fin 2048, if k = A.idx n then ((1 : ℝ) : EReal) else 0

/-- The squared distance of all rows from their code vectors. -/
def err : EReal := ∑ n : Fin 2048, ∑ e, (A.code n e - A.flat n e) * (A.code n e - A.flat n e)

/-- The commitment loss. -/
def com : EReal := A.err * ((1 / 524288 : ℝ) : EReal)

/-- The share of the rows that chose code vector `k`. -/
def share (k : Fin 1024) : EReal := A.hist k * ((1 / 2048 : ℝ) : EReal)

/-- The perplexity. -/
def perp : EReal := Ideal.exp (-∑ k, A.share k * Ideal.log (A.share k + tiny))

/-- The decoder at row `n`. -/
def y (n : Fin 2048) : Fin 768 → EReal :=
  mlp (cur A.dw1) (fun j => A.db1 (ix1 j)) (cur A.dw2) (fun e => A.db2 (ix1 e)) (A.code n)

/-- The decoded features. -/
def dec (b : Fin 128) (h w : Fin 14) (c : Fin 768) : EReal :=
  ∑ i : Fin 4, ∑ j : Fin 4, up h i * up w j * A.y ⟨b.val * 16 + i.val * 4 + j.val, by omega⟩ c

end Args

end Vq
-- ==== Proof.Tab.lean ====
/-
  The words of the pooling table.
-/
module

public import proofs.«01_k».proof.Proof.Gen.KernelIdeal
public import proofs.«01_k».proof.Proof.Spec

@[expose] public section

noncomputable section

namespace Vq

open Idealize.ShloMosaic Cert.KernelIdeal

/-- Row `k` of the table (a bin) at fine place `h`, `w` in row-major order is one sixteenth inside the bin and zero outside. -/
theorem pool_word : ∀ n : Fin 3136, lit0 n
    = if (st ⟨n.val / 784, by omega⟩ ≤ n.val / 14 % 14 ∧ n.val / 14 % 14 < st ⟨n.val / 784, by omega⟩ + 4)
        ∧ (st ⟨n.val / 196 % 4, by omega⟩ ≤ n.val % 14 ∧ n.val % 14 < st ⟨n.val / 196 % 4, by omega⟩ + 4)
      then 0x3D800000#32 else 0x00000000#32 := by
  decide +kernel

end Vq
-- ==== Proof.Host.lean ====
/-
  The operands the host prepares before the launch, element by element.
-/
module

public import proofs.«01_k».proof.Proof.Gen.KernelIdeal.Value
public import proofs.«01_k».proof.Proof.Spec
public import proofs.«01_k».proof.Proof.Tab
public import Idealize.ShloMosaic.Lib.Pipeline.ValueKit.Point

@[expose] public section

noncomputable section

namespace Vq

open Idealize.ShloMosaic Idealize.ShloMosaic.TcCoe Idealize.SL.Sem Cert.KernelIdeal Cert.KernelIdeal.Gen

variable (m : (l : Loc nD τ sig) → Buf (Elt Ideal) l)

theorem V_bias (c : Dev nD) (k : Fin 2) (j : Fin 512) :
    V m c main_v2 (ix2 k j) = if k.val < 1 then m (c, main_arg3) (ix1 j) else m (c, main_arg8) (ix1 j) := by
  simp only [V, hostOps0, hostOps0_1, hostOps0_2, hostOps0_3, List.flatten_cons, List.flatten_nil, List.append_nil, List.cons_append, List.nil_append]
  entry_read
  pointwise
  rfl

theorem V_v3 (c : Dev nD) (z : Fin 1) (j : Fin 256) : V m c main_v3 (ix2 z j) = m (c, main_arg5) (ix1 j) := by
  simp only [V, hostOps0, hostOps0_1, hostOps0_2, hostOps0_3, List.flatten_cons, List.flatten_nil, List.append_nil, List.cons_append, List.nil_append]
  entry_read
  pointwise

theorem V_v4 (c : Dev nD) (z : Fin 1) (j : Fin 768) : V m c main_v4 (ix2 z j) = m (c, main_arg10) (ix1 j) := by
  simp only [V, hostOps0, hostOps0_1, hostOps0_2, hostOps0_3, List.flatten_cons, List.flatten_nil, List.append_nil, List.cons_append, List.nil_append]
  entry_read
  pointwise

/-- An entry of the eight by eight identity. -/
def eye (a b : ℕ) : EReal := if a = b then ((1 : ℝ) : EReal) else 0

theorem eye_word (a b : ℕ) (ha : a < 8) (hb : b < 8) :
    (FloatOps.uitofp (F := Ideal) .f32 (IntOp.cmpi CmpIPredicate.eq (IntOp.addi (BitVec.ofNat 32 a) 0#32) (BitVec.ofNat 32 b))) = eye a b := by
  unfold eye
  by_cases h : a = b
  · subst h
    simp [IntOp.cmpi, IntOp.addi, FloatOps.uitofp]
  · have hne : BitVec.ofNat 32 a ≠ BitVec.ofNat 32 b := fun he => h (by
      have := congrArg BitVec.toNat he
      rw [BitVec.toNat_ofNat, BitVec.toNat_ofNat, Nat.mod_eq_of_lt (by omega), Nat.mod_eq_of_lt (by omega)] at this
      exact this)
    have hb : (BitVec.ofNat 32 a == BitVec.ofNat 32 b) = false := beq_eq_false_iff_ne.2 hne
    simp [IntOp.cmpi, IntOp.addi, FloatOps.uitofp, hb, h]

theorem V_pool (c : Dev nD) (r : Fin 128) (s : Fin 1568) : V m c main_v11 (ix2 r s)
    = eye (r.val / 16) (s.val / 196) * Ideal.ofBits .f32 (lit0 ⟨r.val % 16 * 196 + s.val % 196, by omega⟩) := by
  simp only [V, hostOps0, hostOps0_1, hostOps0_2, hostOps0_3, List.flatten_cons, List.flatten_nil, List.append_nil, List.cons_append, List.nil_append]
  entry_read
  simp only [StableHlo.TRef.toBuf, StableHlo.TRef.ofBuf, cast_cast, cast_eq]
  pointwise
  rw [eye_word _ _ (by omega) (by omega)]
  congr 3
  exact Fin.ext ((Shape.rowMajor_val_two _).trans rfl)

theorem V_up (c : Dev nD) (s : Fin 1568) (r : Fin 128) : V m c main_v68 (ix2 s r)
    = eye (s.val / 196) (r.val / 16) * (up ⟨s.val / 14 % 14, by omega⟩ ⟨r.val / 4 % 4, by omega⟩ * up ⟨s.val % 14, by omega⟩ ⟨r.val % 4, by omega⟩) := by
  simp only [V, hostOps0, hostOps0_1, hostOps0_2, hostOps0_3, List.flatten_cons, List.flatten_nil, List.append_nil, List.cons_append, List.nil_append]
  entry_read
  simp only [StableHlo.TRef.toBuf, StableHlo.TRef.ofBuf, cast_cast, cast_eq]
  pointwise
  rw [eye_word _ _ (by omega) (by omega)]
  have hx : ∀ x : Fin 4, FloatOps.sitofp (F := Ideal) .f32 (BitVec.ofNat 32 x.val) = ((x.val : ℝ) : EReal) := fun x => sitofp_ofNat _ (by omega)
  simp only [hx]
  rw [sitofp_ofNat (s.val % 196 / 14) (by omega), sitofp_ofNat (s.val % 196 % 14) (by omega), sitofp_ofNat (r.val % 16 / 4) (by omega),
    sitofp_ofNat (r.val % 16 % 4) (by omega), show s.val % 196 / 14 = s.val / 14 % 14 by omega, show s.val % 196 % 14 = s.val % 14 by omega,
    show r.val % 16 / 4 = r.val / 4 % 4 by omega, show r.val % 16 % 4 = r.val % 4 by omega]
  rfl

end Vq
-- ==== Proof.Blocks.lean ====
/-
  The input blocks of a grid point, as entries of the arguments and of the prepared operands.
-/
module

public import proofs.«01_k».proof.Proof.Host

@[expose] public section

noncomputable section

namespace Vq

open Idealize.ShloMosaic Idealize.ShloMosaic.TcCoe Idealize.SL.Sem Cert.KernelIdeal Cert.KernelIdeal.Gen

variable (m : (l : Loc nD τ sig) → Buf (Elt Ideal) l)

theorem index_w0 : ∀ t : Fin cfg0.N, win0_0.index t = ![t.val, 0, 0, 0] := (by decide +kernel : ∀ t : Fin grid0.N, _)
theorem index_w1 : ∀ t : Fin cfg0.N, win0_1.index t = ![t.val, 0, 0, 0] := (by decide +kernel : ∀ t : Fin grid0.N, _)
theorem index_w2 : ∀ t : Fin cfg0.N, win0_2.index t = ![0, 0] := (by decide +kernel : ∀ t : Fin grid0.N, _)
theorem index_w3 : ∀ t : Fin cfg0.N, win0_3.index t = ![0, 0] := (by decide +kernel : ∀ t : Fin grid0.N, _)
theorem index_w4 : ∀ t : Fin cfg0.N, win0_4.index t = ![0, 0] := (by decide +kernel : ∀ t : Fin grid0.N, _)
theorem index_w5 : ∀ t : Fin cfg0.N, win0_5.index t = ![0, 0] := (by decide +kernel : ∀ t : Fin grid0.N, _)
theorem index_w6 : ∀ t : Fin cfg0.N, win0_6.index t = ![0, 0] := (by decide +kernel : ∀ t : Fin grid0.N, _)
theorem index_w7 : ∀ t : Fin cfg0.N, win0_7.index t = ![0, 0] := (by decide +kernel : ∀ t : Fin grid0.N, _)
theorem index_w8 : ∀ t : Fin cfg0.N, win0_8.index t = ![0, 0] := (by decide +kernel : ∀ t : Fin grid0.N, _)
theorem index_w9 : ∀ t : Fin cfg0.N, win0_9.index t = ![0, 0] := (by decide +kernel : ∀ t : Fin grid0.N, _)
theorem index_w10 : ∀ t : Fin cfg0.N, win0_10.index t = ![0, 0] := (by decide +kernel : ∀ t : Fin grid0.N, _)
theorem index_w11 : ∀ t : Fin cfg0.N, win0_11.index t = ![0, 0] := (by decide +kernel : ∀ t : Fin grid0.N, _)

theorem t_lt (t : Fin cfg0.N) : t.val < 16 := lt_of_lt_of_eq t.isLt N_0

theorem blk0 (c : Dev nD) (t : Fin cfg0.N) (b : Fin 8) (h w : Fin 14) (d : Fin 768) :
    iblk m c 0 t (ix4 b h w d) = m (c, main_arg0) (ix4 ⟨t.val * 8 + b.val, by have := t_lt t; omega⟩ h w d) := by
  blk_ext! [iblk, V, index_w0 t]

theorem blk1 (c : Dev nD) (t : Fin cfg0.N) (b : Fin 8) (h w : Fin 14) (d : Fin 768) :
    iblk m c 1 t (ix4 b h w d) = m (c, main_arg1) (ix4 ⟨t.val * 8 + b.val, by have := t_lt t; omega⟩ h w d) := by
  blk_ext! [iblk, V, index_w1 t]

theorem blk2 (c : Dev nD) (t : Fin cfg0.N) (i : Fin 768) (j : Fin 512) : iblk m c 2 t (ix2 i j) = m (c, main_arg2) (ix2 i j) := by
  blk_ext! [iblk, V, index_w2 t]

theorem blk3 (c : Dev nD) (t : Fin cfg0.N) (i : Fin 2) (j : Fin 512) : iblk m c 3 t (ix2 i j) = V m c main_v2 (ix2 i j) := by
  blk_ext [iblk, index_w3 t]

theorem blk4 (c : Dev nD) (t : Fin cfg0.N) (i : Fin 512) (j : Fin 256) : iblk m c 4 t (ix2 i j) = m (c, main_arg4) (ix2 i j) := by
  blk_ext! [iblk, V, index_w4 t]

theorem blk5 (c : Dev nD) (t : Fin cfg0.N) (i : Fin 1) (j : Fin 256) : iblk m c 5 t (ix2 i j) = V m c main_v3 (ix2 i j) := by
  blk_ext [iblk, index_w5 t]

theorem blk6 (c : Dev nD) (t : Fin cfg0.N) (i : Fin 1024) (j : Fin 256) : iblk m c 6 t (ix2 i j) = m (c, main_arg6) (ix2 i j) := by
  blk_ext! [iblk, V, index_w6 t]

theorem blk7 (c : Dev nD) (t : Fin cfg0.N) (i : Fin 256) (j : Fin 512) : iblk m c 7 t (ix2 i j) = m (c, main_arg7) (ix2 i j) := by
  blk_ext! [iblk, V, index_w7 t]

theorem blk8 (c : Dev nD) (t : Fin cfg0.N) (i : Fin 512) (j : Fin 768) : iblk m c 8 t (ix2 i j) = m (c, main_arg9) (ix2 i j) := by
  blk_ext! [iblk, V, index_w8 t]

theorem blk9 (c : Dev nD) (t : Fin cfg0.N) (i : Fin 1) (j : Fin 768) : iblk m c 9 t (ix2 i j) = V m c main_v4 (ix2 i j) := by
  blk_ext [iblk, index_w9 t]

theorem blk10 (c : Dev nD) (t : Fin cfg0.N) (i : Fin 128) (j : Fin 1568) : iblk m c 10 t (ix2 i j) = V m c main_v11 (ix2 i j) := by
  blk_ext [iblk, index_w10 t]

theorem blk11 (c : Dev nD) (t : Fin cfg0.N) (i : Fin 1568) (j : Fin 128) : iblk m c 11 t (ix2 i j) = V m c main_v68 (ix2 i j) := by
  blk_ext [iblk, index_w11 t]

/-- The first bias row. -/
theorem row0 (c : Dev nD) (t : Fin cfg0.N) (z : Fin 1) (j : Fin 512) :
    View.ld (iblk m c 3 t) (Rect.unit ![0, 0] ![1, 512] inb_S2x512_S1x512_0_0) (ix2 z j) = m (c, main_arg3) (ix1 j) := by
  refine Eq.trans (congrArg (iblk m c 3 t) (?_ : _ = ix2 0 j)) (((blk3 m c t 0 j).trans (V_bias m c 0 j)).trans (if_pos (by decide)))
  funext a
  apply Fin.ext
  have hz := z.isLt
  match a with
  | ⟨0, _⟩ => show 0 + 1 * z.val = 0; omega
  | ⟨1, _⟩ => show 0 + 1 * j.val = j.val; omega

/-- The second bias row. -/
theorem row1 (c : Dev nD) (t : Fin cfg0.N) (z : Fin 1) (j : Fin 512) :
    View.ld (iblk m c 3 t) (Rect.unit ![1, 0] ![1, 512] inb_S2x512_S1x512_1_0) (ix2 z j) = m (c, main_arg8) (ix1 j) := by
  refine Eq.trans (congrArg (iblk m c 3 t) (?_ : _ = ix2 1 j)) (((blk3 m c t 1 j).trans (V_bias m c 1 j)).trans (if_neg (by decide)))
  funext a
  apply Fin.ext
  have hz := z.isLt
  match a with
  | ⟨0, _⟩ => show 1 + 1 * z.val = 1; omega
  | ⟨1, _⟩ => show 0 + 1 * j.val = j.val; omega

end Vq
-- ==== Proof.Pay.lean ====
/-
  What each stored value of the kernel's body is, element by element.
-/
module

public import proofs.«01_k».proof.Proof.Gen.KernelIdeal.Skeleton
public import proofs.«01_k».proof.Proof.Spec

@[expose] public section

noncomputable section

open scoped BigOperators

namespace Vq

open Idealize.ShloMosaic Cert.KernelIdeal Cert.KernelIdeal.Gen

theorem pay3_apply (v3 v4 : Vec Ideal S8x14x14x768 .f32) (v7 : Vec Ideal S768x512 .f32) (v9 : Vec Ideal S1x512 .f32)
    (v21 : Vec Ideal S512x256 .f32) (v23 : Vec Ideal S1x256 .f32) (v27 : Vec Ideal S128x1568 .f32) (r : Fin 128) (e : Fin 256) :
    k0_pay3 v3 v4 v7 v9 v21 v23 v27 (ix2 r e)
      = ∑ s : Fin 1568, v27 (ix2 r s) * mlp (cur v7) (fun j => v9 (ix2 0 j)) (cur v21) (fun e => v23 (ix2 0 e)) (fun d =>
          v3 (ix4 ⟨s.val / 196, by have := s.isLt; omega⟩ ⟨s.val / 14 % 14, by omega⟩ ⟨s.val % 14, by omega⟩ d)
            - v4 (ix4 ⟨s.val / 196, by have := s.isLt; omega⟩ ⟨s.val / 14 % 14, by omega⟩ ⟨s.val % 14, by omega⟩ d)) e := by
  pointwise [k0_pay3]
  rfl

theorem top_eq : Ideal.ofBits .f32 0x7F800000#32 = ⊤ := by simp [Ideal.ofBits, Ideal.ieee]

theorem pay4_apply (v29 : FVec Ideal S128x256 .f32) (v30 : Vec Ideal S1024x256 .f32) (r : Fin 128) (z : Fin 1) :
    k0_pay4 v29 v30 (ix2 r z) = BitVec.ofNat 32 (near (cur v30) (cur v29 r)).val := by
  pointwise [k0_pay4]
  rw [top_eq, two_eq]
  have e := fold_min_eq_least (score (cur v30) (cur v29 r))
  have e' := fold_minsi_eq_least (by norm_num) (score (cur v30) (cur v29 r))
  refine Eq.trans ?_ e'
  refine congrArg (fun f => Finset.fold IntOp.minsi 2147483647#32 f Finset.univ) (funext fun k => ?_)
  have hc : ∀ k, (∑ x, v30 (ix2 k x) * v30 (ix2 k x)) - ((2 : ℝ) : EReal) * ∑ x, v29 (ix2 r x) * v30 (ix2 k x)
      = score (cur v30) (cur v29 r) k := fun k => rfl
  simp only [hc, e]
  by_cases h : score (cur v30) (cur v29 r) k = score (cur v30) (cur v29 r) (least (score (cur v30) (cur v29 r)))
  · rw [if_pos h, if_pos h]
  · rw [if_neg h, if_neg h]

theorem pay5_apply (v29 : FVec Ideal S128x256 .f32) (v30 : Vec Ideal S1024x256 .f32) (r : Fin 128) (k : Fin 1024) :
    k0_pay5 v29 v30 (ix2 r k) = if k = near (cur v30) (cur v29 r) then ((1 : ℝ) : EReal) else 0 := by
  pointwise [k0_pay5]
  rw [pay4_apply]
  generalize near (cur v30) (cur v29 r) = n
  have hk := k.isLt
  have hn := n.isLt
  by_cases h : k = n
  · subst h
    rw [if_pos rfl]
    simp [IntOp.cmpi, FloatOps.sitofp]
  · rw [if_neg h]
    have : BitVec.ofNat 32 k.val ≠ BitVec.ofNat 32 n.val := fun he => h (Fin.ext (by
      have := congrArg BitVec.toNat he
      rw [BitVec.toNat_ofNat, BitVec.toNat_ofNat, Nat.mod_eq_of_lt (by omega), Nat.mod_eq_of_lt (by omega)] at this
      exact this))
    have hb : (BitVec.ofNat 32 k.val == BitVec.ofNat 32 n.val) = false := beq_eq_false_iff_ne.2 this
    simp [IntOp.cmpi, FloatOps.sitofp, hb]

theorem pay6_apply (v29 : FVec Ideal S128x256 .f32) (v30 : Vec Ideal S1024x256 .f32) (v54 : Vec Ideal S1x1024 .f32) (z : Fin 1)
    (k : Fin 1024) : k0_pay6 v29 v30 v54 (ix2 z k)
      = v54 (ix2 z k) + ∑ r : Fin 128, if k = near (cur v30) (cur v29 r) then ((1 : ℝ) : EReal) else 0 := by
  pointwise [k0_pay6]
  simp only [pay5_apply]

/-- A row of zeros and a one against a matrix is the matrix's row. -/
theorem sum_pick {K : ℕ} (n : Fin K) (f : Fin K → EReal) : (∑ k, (if k = n then ((1 : ℝ) : EReal) else 0) * f k) = f n := by
  rw [Finset.sum_eq_single n (fun k _ h => by rw [if_neg h, zero_mul]) (fun h => absurd (Finset.mem_univ _) h), if_pos rfl,
    EReal.coe_one, one_mul]

theorem pay7_apply (v29 : FVec Ideal S128x256 .f32) (v30 : Vec Ideal S1024x256 .f32) (r : Fin 128) (e : Fin 256) :
    k0_pay7 v29 v30 (ix2 r e) = cur v30 (near (cur v30) (cur v29 r)) e := by
  pointwise [k0_pay7]
  simp only [pay5_apply]
  exact sum_pick _ _

theorem pay8_apply (v29 : FVec Ideal S128x256 .f32) (v30 : Vec Ideal S1024x256 .f32) (v66 : Vec Ideal S1x1 .f32) (z z' : Fin 1) :
    k0_pay9 (k0_pay8 v29 v30 v66) (ix2 z z')
      = v66 (ix2 z z') + ∑ r : Fin 128, ∑ e : Fin 256, (cur v30 (near (cur v30) (cur v29 r)) e - cur v29 r e)
          * (cur v30 (near (cur v30) (cur v29 r)) e - cur v29 r e) := by
  pointwise [k0_pay9, k0_pay8]
  simp only [pay7_apply]
  rfl

theorem pay10_apply (v61 : FVec Ideal S128x256 .f32) (v73 : Vec Ideal S256x512 .f32) (v75 : Vec Ideal S1x512 .f32)
    (v87 : Vec Ideal S512x768 .f32) (v89 : Vec Ideal S1x768 .f32) (v93 : Vec Ideal S1568x128 .f32) (b : Fin 8) (h w : Fin 14) (c : Fin 768) :
    k0_pay10 v61 v73 v75 v87 v89 v93 (ix4 b h w c)
      = ∑ r : Fin 128, v93 (ix2 ⟨b.val * 196 + h.val * 14 + w.val, by omega⟩ r)
          * mlp (cur v73) (fun j => v75 (ix2 0 j)) (cur v87) (fun e => v89 (ix2 0 e)) (cur v61 r) c := by
  pointwise [k0_pay10]
  rfl

theorem share_bits : Ideal.ofBits .f32 0x3A000000#32 = ((1 / 2048 : ℝ) : EReal) := by
  simp [Ideal.ofBits, Ideal.ieee, -EReal.coe_mul]; norm_num
theorem mean_bits : Ideal.ofBits .f32 0x36000000#32 = ((1 / 524288 : ℝ) : EReal) := by
  simp [Ideal.ofBits, Ideal.ieee, -EReal.coe_mul]; norm_num

theorem pay11_apply (v101 : Vec Ideal S1x1024 .f32) (z z' : Fin 1) :
    k0_pay11 v101 (ix2 z z') = Ideal.exp (-∑ k : Fin 1024, v101 (ix2 0 k) * ((1 / 2048 : ℝ) : EReal)
      * Ideal.log (v101 (ix2 0 k) * ((1 / 2048 : ℝ) : EReal) + tiny)) := by
  pointwise [k0_pay11]
  rw [share_bits, zero_sub]
  rfl

theorem pay12_apply (v114 : Vec Ideal S1x1 .f32) (z z' : Fin 1) :
    k0_pay12 v114 (ix2 z z') = v114 (ix2 z z') * ((1 / 524288 : ℝ) : EReal) := by
  pointwise [k0_pay12]
  rw [mean_bits]

theorem pay1_apply (j : S1x1024.Idx) : k0_pay1 (F := Ideal) j = 0 := by
  pointwise [k0_pay1]

theorem pay2_apply (j : S1x1.Idx) : k0_pay2 (F := Ideal) j = 0 := by
  pointwise [k0_pay2]

end Vq
-- ==== Proof.Sums.lean ====
/-
  The two block-diagonal products of the kernel as sums over a bin and over the coarse grid.
-/
module

public import proofs.«01_k».proof.Proof.Host
public import Idealize.ShloMosaic.Lib.IdealHost
public import Idealize.ShloMosaic.Lib.Pipeline.ValueKit.Acc

@[expose] public section

noncomputable section

open scoped BigOperators

namespace Vq

open Idealize.ShloMosaic Cert.KernelIdeal

/-- A nonnegative real factor goes into a sum. -/
theorem coe_mul_sum {ι : Type} (s : Finset ι) (r : ℝ) (hr : 0 ≤ r) (f : ι → EReal) : (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (EReal.coe_nonneg.2 hr) (EReal.coe_ne_top r), ih]

/-- The sum over an axis of the entries in a bin. -/
theorem sum_bin (i : Fin 4) (F : Fin 14 → EReal) :
    (∑ h : Fin 14, if st i ≤ h.val ∧ h.val < st i + 4 then F h else 0) = ∑ p : Fin 4, F (pos i p) := by
  fin_cases i <;> simp [Fin.sum_univ_succ, st, pos] <;> rfl

theorem eye_self (a : ℕ) : eye a a = 1 := by simp [eye]
theorem eye_ne {a b : ℕ} (h : a ≠ b) : eye a b = 0 := if_neg h

/-- The pooling row `r` against the values of eight clips is the mean of its bin. -/
theorem pool_sum (r : Fin 128) (g : Fin 8 → Fin 14 → Fin 14 → EReal) :
    (∑ s : Fin 1568, eye (r.val / 16) (s.val / 196) * Ideal.ofBits .f32 (lit0 ⟨r.val % 16 * 196 + s.val % 196, by omega⟩)
        * g ⟨s.val / 196, by have := s.isLt; omega⟩ ⟨s.val / 14 % 14, by omega⟩ ⟨s.val % 14, by omega⟩)
      = (∑ p, ∑ q, g ⟨r.val / 16, by have := r.isLt; omega⟩ (pos ⟨r.val / 4 % 4, by omega⟩ p) (pos ⟨r.val % 4, by omega⟩ q)) * ((1 / 16 : ℝ) : EReal) := by
  have hr := r.isLt
  have hw : Ideal.ofBits .f32 0x3D800000#32 = ((1 / 16 : ℝ) : EReal) := by
    simp [Ideal.ofBits, Ideal.ieee, -EReal.coe_mul]; norm_num
  have hsplit := fun F : Fin 1568 → EReal => (Fin.sum_mul_add_fin (L := 1568) 8 196 F (by norm_num)).symm
  rw [hsplit]
  have hsplit2 := fun F : Fin 196 → EReal => (Fin.sum_mul_add_fin (L := 196) 14 14 F (by norm_num)).symm
  rw [Finset.sum_eq_single (⟨r.val / 16, by omega⟩ : Fin 8)]
  · rw [hsplit2, mul_comm _ ((1 / 16 : ℝ) : EReal), coe_mul_sum _ _ (by norm_num), ← sum_bin ⟨r.val / 4 % 4, by omega⟩
      fun h => ((1 / 16 : ℝ) : EReal) * ∑ q, g ⟨r.val / 16, by omega⟩ h (pos ⟨r.val % 4, by omega⟩ q)]
    refine Finset.sum_congr rfl fun h _ => ?_
    have hh := h.isLt
    rw [coe_mul_sum _ _ (by norm_num), ← sum_bin ⟨r.val % 4, by omega⟩ fun w => ((1 / 16 : ℝ) : EReal) * g ⟨r.val / 16, by omega⟩ h w]
    have e1 : ∀ w : Fin 14, lit0 ⟨r.val % 16 * 196 + (r.val / 16 * 196 + (h.val * 14 + w.val)) % 196, by omega⟩
        = if (st ⟨r.val / 4 % 4, by omega⟩ ≤ h.val ∧ h.val < st ⟨r.val / 4 % 4, by omega⟩ + 4)
            ∧ (st ⟨r.val % 4, by omega⟩ ≤ w.val ∧ w.val < st ⟨r.val % 4, by omega⟩ + 4) then 0x3D800000#32 else 0x00000000#32 := fun w => by
      have hw := w.isLt
      refine (pool_word _).trans ?_
      have a1 : (r.val % 16 * 196 + (r.val / 16 * 196 + (h.val * 14 + w.val)) % 196) / 784 = r.val / 4 % 4 := by omega
      have a2 : (r.val % 16 * 196 + (r.val / 16 * 196 + (h.val * 14 + w.val)) % 196) / 14 % 14 = h.val := by omega
      have a3 : (r.val % 16 * 196 + (r.val / 16 * 196 + (h.val * 14 + w.val)) % 196) / 196 % 4 = r.val % 4 := by omega
      have a4 : (r.val % 16 * 196 + (r.val / 16 * 196 + (h.val * 14 + w.val)) % 196) % 14 = w.val := by omega
      simp only [a1, a2, a3, a4]
    have e2 : ∀ w : Fin 14, (r.val / 16 * 196 + (h.val * 14 + w.val)) / 196 = r.val / 16 := fun w => by have := w.isLt; omega
    have e3 : ∀ w : Fin 14, (r.val / 16 * 196 + (h.val * 14 + w.val)) / 14 % 14 = h.val := fun w => by have := w.isLt; omega
    have e4 : ∀ w : Fin 14, (r.val / 16 * 196 + (h.val * 14 + w.val)) % 14 = w.val := fun w => by have := w.isLt; omega
    simp only [e1, e2, e3, e4, Fin.eta, eye_self, one_mul]
    by_cases hP : st ⟨r.val / 4 % 4, by omega⟩ ≤ h.val ∧ h.val < st ⟨r.val / 4 % 4, by omega⟩ + 4
    · rw [if_pos hP]
      refine Finset.sum_congr rfl fun w _ => ?_
      by_cases hQ : st ⟨r.val % 4, by omega⟩ ≤ w.val ∧ w.val < st ⟨r.val % 4, by omega⟩ + 4
      · rw [if_pos ⟨hP, hQ⟩, if_pos hQ, hw]
      · rw [if_neg fun h => hQ h.2, if_neg hQ, Ideal.ofBits_zero_f32, zero_mul]
    · rw [if_neg hP]
      refine Finset.sum_eq_zero fun w _ => ?_
      rw [if_neg fun h => hP h.1, Ideal.ofBits_zero_f32, zero_mul]
  · intro b _ hb
    refine Finset.sum_eq_zero fun k _ => ?_
    have hk := k.isLt
    have hne : r.val / 16 ≠ (b.val * 196 + k.val) / 196 := fun he => hb (Fin.ext (show b.val = r.val / 16 by omega))
    show eye (r.val / 16) ((b.val * 196 + k.val) / 196) * _ * _ = 0
    rw [eye_ne hne, zero_mul, zero_mul]
  · exact fun h => absurd (Finset.mem_univ _) h

/-- Fine place `s` of the weights against the rows of eight clips is the weighted sum over its clip's coarse grid. -/
theorem up_sum (b : Fin 8) (h w : Fin 14) (y : Fin 128 → EReal) :
    (∑ r : Fin 128, eye b.val (r.val / 16) * (up h ⟨r.val / 4 % 4, by omega⟩ * up w ⟨r.val % 4, by omega⟩) * y r)
      = ∑ i : Fin 4, ∑ j : Fin 4, up h i * up w j * y ⟨b.val * 16 + i.val * 4 + j.val, by omega⟩ := by
  have hb := b.isLt
  have hsplit := fun F : Fin 128 → EReal => (Fin.sum_mul_add_fin (L := 128) 8 16 F (by norm_num)).symm
  have hsplit2 := fun F : Fin 16 → EReal => (Fin.sum_mul_add_fin (L := 16) 4 4 F (by norm_num)).symm
  rw [hsplit, Finset.sum_eq_single b]
  · rw [hsplit2]
    refine Finset.sum_congr rfl fun i _ => Finset.sum_congr rfl fun j _ => ?_
    have hi := i.isLt
    have hj := j.isLt
    have e2 : (b.val * 16 + i.val * 4 + j.val) / 16 = b.val := by omega
    have e3 : (b.val * 16 + i.val * 4 + j.val) / 4 % 4 = i.val := by omega
    have e4 : (b.val * 16 + i.val * 4 + j.val) % 4 = j.val := by omega
    simp only [← add_assoc, e2, e3, e4, Fin.eta, eye_self, one_mul]
  · intro a _ ha
    refine Finset.sum_eq_zero fun k _ => ?_
    have hk := k.isLt
    have hne : b.val ≠ (a.val * 16 + k.val) / 16 := fun he => ha (Fin.ext (by omega))
    show eye b.val ((a.val * 16 + k.val) / 16) * _ * _ = 0
    rw [eye_ne hne, zero_mul, zero_mul]
  · exact fun h => absurd (Finset.mem_univ _) h

end Vq
-- ==== Proof.Step.lean ====
/-
  What one grid point leaves in each output block and in the two accumulators, as functions of the arguments.
-/
module

public import proofs.«01_k».proof.Proof.Blocks
public import proofs.«01_k».proof.Proof.Pay
public import proofs.«01_k».proof.Proof.Sums
public import Idealize.ShloMosaic.Lib.Pipeline.ValueKit.Acc

@[expose] public section

noncomputable section

namespace Vq

open Idealize.ShloMosaic Idealize.ShloMosaic.TcCoe Idealize.SL.Sem Cert.KernelIdeal Cert.KernelIdeal.Gen

variable (m : (l : Loc nD τ sig) → Buf (Elt Ideal) l)

/-- The arguments a memory holds. -/
def args (c : Dev nD) : Args where
  t0 := m (c, main_arg0)
  t1 := m (c, main_arg1)
  w1 := m (c, main_arg2)
  b1 := m (c, main_arg3)
  w2 := m (c, main_arg4)
  b2 := m (c, main_arg5)
  cb := m (c, main_arg6)
  dw1 := m (c, main_arg7)
  db1 := m (c, main_arg8)
  dw2 := m (c, main_arg9)
  db2 := m (c, main_arg10)

/-- The bins of a point's eight clips. -/
def X (c : Dev nD) (t : Fin cfg0.N) : FVec Ideal S128x256 .f32 :=
  k0_pay3 (iblk m c 1 t) (iblk m c 0 t) (iblk m c 2 t) (View.ld (iblk m c 3 t) (Rect.unit ![0, 0] ![1, 512] inb_S2x512_S1x512_0_0))
    (iblk m c 4 t) (iblk m c 5 t) (iblk m c 10 t)

theorem mlp_congr {D H E : ℕ} {w1 w1' : Fin D → Fin H → EReal} {b1 b1' : Fin H → EReal} {w2 w2' : Fin H → Fin E → EReal}
    {b2 b2' : Fin E → EReal} {x x' : Fin D → EReal} (h1 : ∀ i j, w1 i j = w1' i j) (h2 : ∀ j, b1 j = b1' j)
    (h3 : ∀ i j, w2 i j = w2' i j) (h4 : ∀ j, b2 j = b2' j) (h5 : ∀ d, x d = x' d) (e : Fin E) :
    mlp w1 b1 w2 b2 x e = mlp w1' b1' w2' b2' x' e := by
  rw [funext fun i => funext (h1 i), funext h2, funext fun i => funext (h3 i), funext h4, funext h5]

theorem X_apply (c : Dev nD) (t : Fin cfg0.N) (r : Fin 128) (e : Fin 256) :
    X m c t (ix2 r e) = (args m c).flat ⟨t.val * 128 + r.val, by have := t_lt t; omega⟩ e := by
  have ht := t_lt t
  have hr := r.isLt
  unfold X
  rw [pay3_apply]
  refine (Finset.sum_congr rfl fun s _ => ?_).trans
    ((pool_sum r fun b h w => (args m c).enc ⟨t.val * 8 + b.val, by omega⟩ h w e).trans ?_)
  · rw [blk10, V_pool]
    refine congrArg _ (mlp_congr (fun i j => blk2 m c t i j) (fun j => row0 m c t 0 j) (fun i j => blk4 m c t i j)
      (fun j => (blk5 m c t 0 j).trans (V_v3 m c 0 j)) (fun d => ?_) e)
    rw [blk0, blk1]
    rfl
  · unfold Args.flat Args.bin
    have e1 : t.val * 8 + r.val / 16 = (t.val * 128 + r.val) / 16 := by omega
    have e2 : r.val / 4 % 4 = (t.val * 128 + r.val) / 4 % 4 := by omega
    have e3 : r.val % 4 = (t.val * 128 + r.val) % 4 := by omega
    simp only [e1, e2, e3]

theorem cb_eq (c : Dev nD) (t : Fin cfg0.N) : cur (iblk m c 6 t) = cur (args m c).cb :=
  funext fun i => funext fun j => blk6 m c t i j

theorem X_row (c : Dev nD) (t : Fin cfg0.N) (r : Fin 128) :
    cur (X m c t) r = (args m c).flat ⟨t.val * 128 + r.val, by have := t_lt t; omega⟩ :=
  funext fun e => X_apply m c t r e

/-- The block of indices a point stores. -/
theorem idx_point (c : Dev nD) (t : Fin cfg0.N) (r : Fin 128) (z : Fin 1) : k0_pay4 (X m c t) (iblk m c 6 t) (ix2 r z)
    = BitVec.ofNat 32 ((args m c).idx ⟨t.val * 128 + r.val, by have := t_lt t; omega⟩).val := by
  rw [pay4_apply, cb_eq, X_row]
  rfl

/-- The counts a point adds. -/
theorem hist_point (c : Dev nD) (t : Fin cfg0.N) (v : Vec Ideal S1x1024 .f32) (z : Fin 1) (k : Fin 1024) :
    k0_pay6 (X m c t) (iblk m c 6 t) v (ix2 z k) = v (ix2 z k)
      + ∑ r : Fin 128, if k = (args m c).idx ⟨t.val * 128 + r.val, by have := t_lt t; omega⟩ then ((1 : ℝ) : EReal) else 0 := by
  rw [pay6_apply, cb_eq]
  simp only [X_row]
  rfl

/-- The squared distance a point adds. -/
theorem err_point (c : Dev nD) (t : Fin cfg0.N) (v : Vec Ideal S1x1 .f32) (z z' : Fin 1) :
    k0_pay9 (k0_pay8 (X m c t) (iblk m c 6 t) v) (ix2 z z') = v (ix2 z z')
      + ∑ r : Fin 128, ∑ e, ((args m c).code ⟨t.val * 128 + r.val, by have := t_lt t; omega⟩ e
          - (args m c).flat ⟨t.val * 128 + r.val, by have := t_lt t; omega⟩ e)
        * ((args m c).code ⟨t.val * 128 + r.val, by have := t_lt t; omega⟩ e
          - (args m c).flat ⟨t.val * 128 + r.val, by have := t_lt t; omega⟩ e) := by
  rw [pay8_apply, cb_eq]
  simp only [X_row]
  rfl

/-- The block of decoded features a point stores. -/
theorem dec_point (c : Dev nD) (t : Fin cfg0.N) (b : Fin 8) (h w : Fin 14) (d : Fin 768) :
    k0_pay10 (k0_pay7 (X m c t) (iblk m c 6 t)) (iblk m c 7 t)
        (View.ld (iblk m c 3 t) (Rect.unit ![1, 0] ![1, 512] inb_S2x512_S1x512_1_0)) (iblk m c 8 t) (iblk m c 9 t) (iblk m c 11 t)
        (ix4 b h w d)
      = (args m c).dec ⟨t.val * 8 + b.val, by have := t_lt t; omega⟩ h w d := by
  have ht := t_lt t
  rw [pay10_apply]
  refine (Finset.sum_congr rfl fun r _ => ?_).trans
    ((up_sum b h w fun r => (args m c).y ⟨t.val * 128 + r.val, by omega⟩ d).trans ?_)
  · rw [blk11, V_up]
    have hb := b.isLt
    have hh := h.isLt
    have hw := w.isLt
    have e1 : (b.val * 196 + h.val * 14 + w.val) / 196 = b.val := by omega
    have e2 : (b.val * 196 + h.val * 14 + w.val) / 14 % 14 = h.val := by omega
    have e3 : (b.val * 196 + h.val * 14 + w.val) % 14 = w.val := by omega
    simp only [e1, e2, e3, Fin.eta]
    refine congrArg _ (mlp_congr (fun i j => blk7 m c t i j) (fun j => row1 m c t 0 j) (fun i j => blk8 m c t i j)
      (fun j => (blk9 m c t 0 j).trans (V_v4 m c 0 j)) (fun e => ?_) d)
    show k0_pay7 (X m c t) (iblk m c 6 t) (ix2 r e) = _
    rw [pay7_apply, cb_eq, X_row]
    rfl
  · unfold Args.dec
    refine Finset.sum_congr rfl fun i _ => Finset.sum_congr rfl fun j _ => congrArg (fun n => _ * (args m c).y n d) (Fin.ext ?_)
    show t.val * 128 + (b.val * 16 + i.val * 4 + j.val) = (t.val * 8 + b.val) * 16 + i.val * 4 + j.val
    omega

end Vq
-- ==== Proof.Kernel.lean ====
/-
  The four arrays the kernel leaves, as functions of the arguments.
-/
module

public import proofs.«01_k».proof.Proof.Step

@[expose] public section

noncomputable section

namespace Vq

open Idealize.ShloMosaic Idealize.ShloMosaic.TcCoe Idealize.SL.Sem Cert.KernelIdeal Cert.KernelIdeal.Gen

variable (m : (l : Loc nD τ sig) → Buf (Elt Ideal) l)

theorem dec_out (c : Dev nD) (t : Fin cfg0.N) : (outsAt0 m c t.val t.isLt).1
    = k0_pay10 (k0_pay7 (X m c t) (iblk m c 6 t)) (iblk m c 7 t)
        (View.ld (iblk m c 3 t) (Rect.unit ![1, 0] ![1, 512] inb_S2x512_S1x512_1_0)) (iblk m c 8 t) (iblk m c 9 t) (iblk m c 11 t) := by
  by_cases h0 : t.val % 16 = 0
  · rw [outsAt0_A m c t h0 (by omega)]
    frame_out
    rfl
  · by_cases h1 : t.val % 16 = 15
    · rw [outsAt0_C m c t h0 h1]
      frame_out
      rfl
    · rw [outsAt0_B m c t h0 h1]
      frame_out
      rfl

theorem idx_out (c : Dev nD) (t : Fin cfg0.N) : (outsAt0 m c t.val t.isLt).2.1 = k0_pay4 (X m c t) (iblk m c 6 t) := by
  by_cases h0 : t.val % 16 = 0
  · rw [outsAt0_A m c t h0 (by omega)]
    frame_out
    rfl
  · by_cases h1 : t.val % 16 = 15
    · rw [outsAt0_C m c t h0 h1]
      frame_out
      rfl
    · rw [outsAt0_B m c t h0 h1]
      frame_out
      rfl

/-- The counts after the first point. -/
theorem hist_first (c : Dev nD) (t : Fin cfg0.N) (h0 : t.val % 16 = 0) :
    (outsAt0 m c t.val t.isLt).2.2.2.2.1 = k0_pay6 (X m c t) (iblk m c 6 t) (k0_pay1 (F := Ideal)) := by
  rw [outsAt0_A m c t h0 (by omega)]
  frame_out
  rfl

/-- The counts after a later point. -/
theorem hist_next (c : Dev nD) (t : Fin cfg0.N) (h0 : ¬t.val % 16 = 0) :
    (outsAt0 m c t.val t.isLt).2.2.2.2.1
      = k0_pay6 (X m c t) (iblk m c 6 t) (outsAt0 m c (t.val - 1) (by have := t.isLt; omega)).2.2.2.2.1 := by
  by_cases h1 : t.val % 16 = 15
  · rw [outsAt0_C m c t h0 h1]
    frame_out
    exact congrArg (k0_pay6 (X m c t) (iblk m c 6 t)) (Memref.IsWhole.read_unread _ _)
  · rw [outsAt0_B m c t h0 h1]
    frame_out
    exact congrArg (k0_pay6 (X m c t) (iblk m c 6 t)) (Memref.IsWhole.read_unread _ _)

/-- The squared distance after the first point. -/
theorem err_first (c : Dev nD) (t : Fin cfg0.N) (h0 : t.val % 16 = 0) :
    (outsAt0 m c t.val t.isLt).2.2.2.2.2 = k0_pay9 (k0_pay8 (X m c t) (iblk m c 6 t) (k0_pay2 (F := Ideal))) := by
  rw [outsAt0_A m c t h0 (by omega)]
  frame_out
  rfl

/-- The squared distance after a later point. -/
theorem err_next (c : Dev nD) (t : Fin cfg0.N) (h0 : ¬t.val % 16 = 0) :
    (outsAt0 m c t.val t.isLt).2.2.2.2.2
      = k0_pay9 (k0_pay8 (X m c t) (iblk m c 6 t) (outsAt0 m c (t.val - 1) (by have := t.isLt; omega)).2.2.2.2.2) := by
  by_cases h1 : t.val % 16 = 15
  · rw [outsAt0_C m c t h0 h1]
    frame_out
    exact congrArg (fun v => k0_pay9 (k0_pay8 (X m c t) (iblk m c 6 t) v)) (Memref.IsWhole.read_unread _ _)
  · rw [outsAt0_B m c t h0 h1]
    frame_out
    exact congrArg (fun v => k0_pay9 (k0_pay8 (X m c t) (iblk m c 6 t) v)) (Memref.IsWhole.read_unread _ _)

/-- The perplexity the last point stores. -/
theorem perp_last (c : Dev nD) (t : Fin cfg0.N) (h1 : t.val % 16 = 15) :
    (outsAt0 m c t.val t.isLt).2.2.1 = k0_pay11 (outsAt0 m c t.val t.isLt).2.2.2.2.1 := by
  rw [hist_next m c t (by omega), outsAt0_C m c t (by omega) h1]
  frame_out
  exact congrArg (fun v => k0_pay11 (k0_pay6 (X m c t) (iblk m c 6 t) v)) (Memref.IsWhole.read_unread _ _)

/-- The commitment loss the last point stores. -/
theorem com_last (c : Dev nD) (t : Fin cfg0.N) (h1 : t.val % 16 = 15) :
    (outsAt0 m c t.val t.isLt).2.2.2.1 = k0_pay12 (outsAt0 m c t.val t.isLt).2.2.2.2.2 := by
  rw [err_next m c t (by omega), outsAt0_C m c t (by omega) h1]
  frame_out
  exact congrArg (fun v => k0_pay12 (k0_pay9 (k0_pay8 (X m c t) (iblk m c 6 t) v))) (Memref.IsWhole.read_unread _ _)

/-- A quantity that starts at the first point's term and grows by each point's is the sum over the points. -/
theorem accum (f : (n : ℕ) → n < cfg0.N → EReal) (g : Fin 16 → EReal) (h0 : ∀ h, f 0 h = g 0)
    (hs : ∀ n (h : n + 1 < cfg0.N), f (n + 1) h = f n (by omega) + g ⟨n + 1, lt_of_lt_of_eq h N_0⟩) :
    ∀ n (h : n < cfg0.N), f n h = ∑ p : Fin (n + 1), g ⟨p.val, by have := lt_of_lt_of_eq h N_0; omega⟩ := by
  intro n
  induction n with
  | zero => intro h; rw [h0, Fin.sum_univ_one]; rfl
  | succ n ih => intro h; rw [hs, ih, Fin.sum_univ_castSucc (n := n + 1)]; rfl

theorem lt15 : 15 < cfg0.N := lt_of_lt_of_eq (by decide) N_0.symm

/-- The sum over points and rows is the sum over all rows. -/
theorem sum_rows (f : Fin 2048 → EReal) : (∑ t : Fin 16, ∑ r : Fin 128, f ⟨t.val * 128 + r.val, by omega⟩) = ∑ n, f n :=
  Fin.sum_mul_add_fin (L := 2048) 16 128 f (by norm_num)

theorem hist_total (c : Dev nD) (z : Fin 1) (k : Fin 1024) :
    (outsAt0 m c 15 lt15).2.2.2.2.1 (ix2 z k) = (args m c).hist k := by
  rw [accum (fun n h => (outsAt0 m c n h).2.2.2.2.1 (ix2 z k))
    (fun t => ∑ r : Fin 128, if k = (args m c).idx ⟨t.val * 128 + r.val, by omega⟩ then ((1 : ℝ) : EReal) else 0)
    (fun h => ?_) (fun n h => ?_) 15 lt15]
  · exact sum_rows fun n => if k = (args m c).idx n then ((1 : ℝ) : EReal) else 0
  · rw [hist_first m c ⟨0, h⟩ rfl, hist_point, pay1_apply, zero_add]
    rfl
  · have := lt_of_lt_of_eq h N_0
    rw [hist_next m c ⟨n + 1, h⟩ (by show ¬(n + 1) % 16 = 0; omega), hist_point]
    rfl

theorem err_total (c : Dev nD) (z z' : Fin 1) : (outsAt0 m c 15 lt15).2.2.2.2.2 (ix2 z z') = (args m c).err := by
  rw [accum (fun n h => (outsAt0 m c n h).2.2.2.2.2 (ix2 z z'))
    (fun t => ∑ r : Fin 128, ∑ e, ((args m c).code ⟨t.val * 128 + r.val, by omega⟩ e - (args m c).flat ⟨t.val * 128 + r.val, by omega⟩ e)
        * ((args m c).code ⟨t.val * 128 + r.val, by omega⟩ e - (args m c).flat ⟨t.val * 128 + r.val, by omega⟩ e))
    (fun h => ?_) (fun n h => ?_) 15 lt15]
  · exact sum_rows fun n => ∑ e, ((args m c).code n e - (args m c).flat n e) * ((args m c).code n e - (args m c).flat n e)
  · rw [err_first m c ⟨0, h⟩ rfl, err_point, pay2_apply, zero_add]
    rfl
  · have := lt_of_lt_of_eq h N_0
    rw [err_next m c ⟨n + 1, h⟩ (by show ¬(n + 1) % 16 = 0; omega), err_point]
    rfl

/-- The decoded features. -/
theorem dec_eq (c : Dev nD) (b : Fin 128) (h w : Fin 14) (d : Fin 768) :
    Value.G12 m c (ix4 b h w d) = (args m c).dec b h w d := by
  have hb := b.isLt
  have hh := h.isLt
  have hw := w.isLt
  have hd := d.isLt
  have hp : Value.pt12Of (ix4 b h w d) = b.val / 8 := by
    show 1 * (b.val / 8 - 0) + 1 * (h.val / 14 - 0) + 1 * (w.val / 14 - 0) + 1 * (d.val / 768 - 0) = _
    omega
  have hl : Value.loc12Of (ix4 b h w d) = ix4 ⟨b.val % 8, by omega⟩ h w d := by
    funext a
    apply Fin.ext
    match a with
    | ⟨0, _⟩ => rfl
    | ⟨1, _⟩ => show h.val % 14 = h.val; omega
    | ⟨2, _⟩ => show w.val % 14 = w.val; omega
    | ⟨3, _⟩ => show d.val % 768 = d.val; omega
  have hN : b.val / 8 < cfg0.N := lt_of_lt_of_eq (by omega) N_0.symm
  unfold Value.G12
  rw [dif_pos (by rw [hp]; exact hN), hl, Value.fold0_congr m c _ _ _ (by omega) hp, ← Value.outsAt0_sweep m c _ hN,
    dec_out m c ⟨b.val / 8, hN⟩, dec_point]
  congr 1
  apply Fin.ext
  show b.val / 8 * 8 + b.val % 8 = b.val
  omega

/-- The indices. -/
theorem idx_eq (c : Dev nD) (n : Fin 2048) (z : Fin 1) :
    Value.G13 m c (ix2 n z) = BitVec.ofNat 32 ((args m c).idx n).val := by
  have hn := n.isLt
  have hz := z.isLt
  have hp : Value.pt13Of (ix2 n z) = n.val / 128 := by
    show 1 * (n.val / 128 - 0) + 1 * (z.val / 1 - 0) = _
    omega
  have hl : Value.loc13Of (ix2 n z) = ix2 ⟨n.val % 128, by omega⟩ z := by
    funext a
    apply Fin.ext
    match a with
    | ⟨0, _⟩ => rfl
    | ⟨1, _⟩ => show z.val % 1 = z.val; omega
  have hN : n.val / 128 < cfg0.N := lt_of_lt_of_eq (by omega) N_0.symm
  unfold Value.G13
  rw [dif_pos (by rw [hp]; exact hN), hl, Value.fold0_congr m c _ _ _ (by omega) hp, ← Value.outsAt0_sweep m c _ hN,
    idx_out m c ⟨n.val / 128, hN⟩, idx_point]
  congr 3
  apply Fin.ext
  show n.val / 128 * 128 + n.val % 128 = n.val
  omega

/-- The perplexity. -/
theorem perp_eq (c : Dev nD) (z z' : Fin 1) : Value.G14 m c (ix2 z z') = (args m c).perp := by
  rw [Value.G14_last, ← Value.outsAt0_sweep m c 15 lt15, perp_last m c ⟨15, lt15⟩ rfl, pay11_apply]
  simp only [hist_total]
  rfl

/-- The commitment loss. -/
theorem com_eq (c : Dev nD) (z z' : Fin 1) : Value.G15 m c (ix2 z z') = (args m c).com := by
  rw [Value.G15_last, ← Value.outsAt0_sweep m c 15 lt15, com_last m c ⟨15, lt15⟩ rfl, pay12_apply, err_total]
  rfl

end Vq
-- ==== Proof.RefEnc.lean ====
/-
  The reference's encoder and its bins.
-/
module

public import proofs.«01_k».proof.Proof.Gen.ReferenceIdeal.Read
public import proofs.«01_k».proof.Proof.Spec

@[expose] public section

noncomputable section

namespace Vq

open Idealize.ShloMosaic Cert.ReferenceIdeal Cert.ReferenceIdeal.Read

variable (A : Args)

theorem gelu_ref (x : EReal) : half * x * Ideal.erfc (-x * rsqrt2) = gelu x := by
  unfold gelu
  rw [EReal.neg_mul, Ideal.erfc_neg]

theorem ref_enc (b : Fin 128) (h w : Fin 14) (e : Fin 256) :
    val_main_v15 (F := Ideal) A.t0 A.t1 A.w1 A.b1 A.w2 A.b2 (ix4 b h w e) = A.enc b h w e := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0]
  exact congrArg (· + A.b2 (ix1 e)) (Finset.sum_congr rfl fun j _ => congrArg (· * A.w2 (ix2 j e)) (gelu_ref _))

theorem ref_flip (b : Fin 128) (e : Fin 256) (h w : Fin 14) :
    val_main_v16 (F := Ideal) A.t0 A.t1 A.w1 A.b1 A.w2 A.b2 (ix4 b e h w) = A.enc b h w e := by
  pointwise [val_main_v16]
  exact ref_enc A b h w e

/-- A bin's sum over sixteen is the bin's mean. -/
theorem mean_ref (b : Fin 128) (e : Fin 256) (i j : Fin 4) (f g : Fin 4 → Fin 14) (hf : ∀ p, f p = pos i p) (hg : ∀ q, g q = pos j q) :
    Ideal.div (∑ p, ∑ q, val_main_v16 (F := Ideal) A.t0 A.t1 A.w1 A.b1 A.w2 A.b2 (ix4 b e (f p) (g q))) (Ideal.ofBits .f32 0x41800000#32)
      = A.bin b i j e := by
  have h16 : Ideal.ofBits .f32 0x41800000#32 = ((16 : ℝ) : EReal) := by
    simp [Ideal.ofBits, Ideal.ieee, -EReal.coe_mul]; norm_num
  rw [h16, Ideal.div_coe (by norm_num)]
  simp only [hf, hg, ref_flip]
  rfl

theorem ref_row0 (b : Fin 128) (e : Fin 256) (j : Fin 4) :
    val_main_v41 (F := Ideal) A.t0 A.t1 A.w1 A.b1 A.w2 A.b2 (ix3 b e j) = A.bin b 0 j e := by
  pointwise [val_main_v17, val_main_cst_1, val_main_v18, val_main_cst_2, val_main_v19, val_main_cst_3, val_main_v20, val_main_v21,
    val_main_v22, val_main_cst_4, val_main_v23, val_main_cst_5, val_main_v24, val_main_cst_6, val_main_v25, val_main_v26,
    val_main_v27, val_main_cst_7, val_main_v28, val_main_cst_8, val_main_v29, val_main_cst_9, val_main_v30, val_main_v31,
    val_main_v32, val_main_cst_10, val_main_v33, val_main_cst_11, val_main_v34, val_main_cst_12, val_main_v35, val_main_v36,
    val_main_v37, val_main_v38, val_main_v39, val_main_v40, val_main_v41]
  fin_cases j
  · exact mean_ref A b e 0 0 (fun p => ⟨p.val, by omega⟩) (fun q => ⟨q.val, by omega⟩) (by decide) (by decide)
  · exact mean_ref A b e 0 1 (fun p => ⟨p.val, by omega⟩) (fun q => ⟨3 + q.val, by omega⟩) (by decide) (by decide)
  · exact mean_ref A b e 0 2 (fun p => ⟨p.val, by omega⟩) (fun q => ⟨7 + q.val, by omega⟩) (by decide) (by decide)
  · exact mean_ref A b e 0 3 (fun p => ⟨p.val, by omega⟩) (fun q => ⟨10 + q.val, by omega⟩) (by decide) (by decide)

theorem ref_row1 (b : Fin 128) (e : Fin 256) (j : Fin 4) :
    val_main_v66 (F := Ideal) A.t0 A.t1 A.w1 A.b1 A.w2 A.b2 (ix3 b e j) = A.bin b 1 j e := by
  pointwise [val_main_v42, val_main_cst_13, val_main_v43, val_main_cst_14, val_main_v44, val_main_cst_15, val_main_v45, val_main_v46,
    val_main_v47, val_main_cst_16, val_main_v48, val_main_cst_17, val_main_v49, val_main_cst_18, val_main_v50, val_main_v51,
    val_main_v52, val_main_cst_19, val_main_v53, val_main_cst_20, val_main_v54, val_main_cst_21, val_main_v55, val_main_v56,
    val_main_v57, val_main_cst_22, val_main_v58, val_main_cst_23, val_main_v59, val_main_cst_24, val_main_v60, val_main_v61,
    val_main_v62, val_main_v63, val_main_v64, val_main_v65, val_main_v66]
  fin_cases j
  · exact mean_ref A b e 1 0 (fun p => ⟨3 + p.val, by omega⟩) (fun q => ⟨q.val, by omega⟩) (by decide) (by decide)
  · exact mean_ref A b e 1 1 (fun p => ⟨3 + p.val, by omega⟩) (fun q => ⟨3 + q.val, by omega⟩) (by decide) (by decide)
  · exact mean_ref A b e 1 2 (fun p => ⟨3 + p.val, by omega⟩) (fun q => ⟨7 + q.val, by omega⟩) (by decide) (by decide)
  · exact mean_ref A b e 1 3 (fun p => ⟨3 + p.val, by omega⟩) (fun q => ⟨10 + q.val, by omega⟩) (by decide) (by decide)

theorem ref_row2 (b : Fin 128) (e : Fin 256) (j : Fin 4) :
    val_main_v91 (F := Ideal) A.t0 A.t1 A.w1 A.b1 A.w2 A.b2 (ix3 b e j) = A.bin b 2 j e := by
  pointwise [val_main_v67, val_main_cst_25, val_main_v68, val_main_cst_26, val_main_v69, val_main_cst_27, val_main_v70, val_main_v71,
    val_main_v72, val_main_cst_28, val_main_v73, val_main_cst_29, val_main_v74, val_main_cst_30, val_main_v75, val_main_v76,
    val_main_v77, val_main_cst_31, val_main_v78, val_main_cst_32, val_main_v79, val_main_cst_33, val_main_v80, val_main_v81,
    val_main_v82, val_main_cst_34, val_main_v83, val_main_cst_35, val_main_v84, val_main_cst_36, val_main_v85, val_main_v86,
    val_main_v87, val_main_v88, val_main_v89, val_main_v90, val_main_v91]
  fin_cases j
  · exact mean_ref A b e 2 0 (fun p => ⟨7 + p.val, by omega⟩) (fun q => ⟨q.val, by omega⟩) (by decide) (by decide)
  · exact mean_ref A b e 2 1 (fun p => ⟨7 + p.val, by omega⟩) (fun q => ⟨3 + q.val, by omega⟩) (by decide) (by decide)
  · exact mean_ref A b e 2 2 (fun p => ⟨7 + p.val, by omega⟩) (fun q => ⟨7 + q.val, by omega⟩) (by decide) (by decide)
  · exact mean_ref A b e 2 3 (fun p => ⟨7 + p.val, by omega⟩) (fun q => ⟨10 + q.val, by omega⟩) (by decide) (by decide)

theorem ref_row3 (b : Fin 128) (e : Fin 256) (j : Fin 4) :
    val_main_v116 (F := Ideal) A.t0 A.t1 A.w1 A.b1 A.w2 A.b2 (ix3 b e j) = A.bin b 3 j e := by
  pointwise [val_main_v92, val_main_cst_37, val_main_v93, val_main_cst_38, val_main_v94, val_main_cst_39, val_main_v95, val_main_v96,
    val_main_v97, val_main_cst_40, val_main_v98, val_main_cst_41, val_main_v99, val_main_cst_42, val_main_v100, val_main_v101,
    val_main_v102, val_main_cst_43, val_main_v103, val_main_cst_44, val_main_v104, val_main_cst_45, val_main_v105, val_main_v106,
    val_main_v107, val_main_cst_46, val_main_v108, val_main_cst_47, val_main_v109, val_main_cst_48, val_main_v110, val_main_v111,
    val_main_v112, val_main_v113, val_main_v114, val_main_v115, val_main_v116]
  fin_cases j
  · exact mean_ref A b e 3 0 (fun p => ⟨10 + p.val, by omega⟩) (fun q => ⟨q.val, by omega⟩) (by decide) (by decide)
  · exact mean_ref A b e 3 1 (fun p => ⟨10 + p.val, by omega⟩) (fun q => ⟨3 + q.val, by omega⟩) (by decide) (by decide)
  · exact mean_ref A b e 3 2 (fun p => ⟨10 + p.val, by omega⟩) (fun q => ⟨7 + q.val, by omega⟩) (by decide) (by decide)
  · exact mean_ref A b e 3 3 (fun p => ⟨10 + p.val, by omega⟩) (fun q => ⟨10 + q.val, by omega⟩) (by decide) (by decide)

theorem ref_flat (n : Fin 2048) (e : Fin 256) :
    val_main_v124 (F := Ideal) A.t0 A.t1 A.w1 A.b1 A.w2 A.b2 (ix2 n e) = A.flat n e := by
  pointwise [val_main_v117, val_main_v118, val_main_v119, val_main_v120, val_main_v121, val_main_v122, val_main_v123, val_main_v124]
  simp only [ref_row0, ref_row1, ref_row2, ref_row3]
  unfold Args.flat
  have e1 : n.val % 16 / 4 = n.val / 4 % 4 := by omega
  have e2 : n.val % 16 % 4 = n.val % 4 := by omega
  simp only [e1, e2]
  have key : ∀ (b : Fin 128) (i j : Fin 4), (if i.val < 1 then A.bin b 0 j e else if i.val - 1 < 1 then A.bin b 1 j e
      else if i.val - 1 - 1 < 1 then A.bin b 2 j e else A.bin b 3 j e) = A.bin b i j e := by
    intro b i j
    fin_cases i <;> rfl
  exact key ⟨n.val / 16, by have := n.isLt; omega⟩ ⟨n.val / 4 % 4, by omega⟩ ⟨n.val % 4, by omega⟩

end Vq
-- ==== Proof.RefIdx.lean ====
/-
  The reference's distances, the index of the nearest code vector, and the code vectors it looks up.
-/
module

public import proofs.«01_k».proof.Proof.RefEnc
public import Idealize.ShloMosaic.Lib.ReduceAll

@[expose] public section

noncomputable section

namespace Vq

open Idealize.ShloMosaic Cert.ReferenceIdeal Cert.ReferenceIdeal.Read

variable (A : Args)

theorem ref_dist (n : Fin 2048) (k : Fin 1024) : val_main_v139 (F := Ideal) A.t0 A.t1 A.w1 A.b1 A.w2 A.b2 A.cb (ix2 n k)
    = -((∑ e, A.flat n e * A.flat n e) - ((2 : ℝ) : EReal) * (∑ e, A.flat n e * cur A.cb k e) + ∑ e, cur A.cb k e * cur A.cb k e) := by
  pointwise [val_main_v139, val_main_v138, val_main_v137, val_main_v136, val_main_v135, val_main_cst_51, val_main_v134, val_main_v133,
    val_main_v132, val_main_v131, val_main_v130, val_main_cst_50, val_main_v129, val_main_v128, val_main_v127, val_main_v126,
    val_main_cst_49, val_main_v125]
  simp only [ref_flat]
  rw [two_eq]
  rfl

/-- The squared distance is the score and the row's own square. -/
theorem dist_score (n : Fin 2048) (r : ℝ) (hr : (∑ e, A.flat n e * A.flat n e) = (r : EReal)) (k : Fin 1024) :
    (∑ e, A.flat n e * A.flat n e) - ((2 : ℝ) : EReal) * (∑ e, A.flat n e * cur A.cb k e) + ∑ e, cur A.cb k e * cur A.cb k e
      = (r : EReal) + score (cur A.cb) (A.flat n) k := by
  rw [hr]
  unfold score
  rw [sub_eq_add_neg, sub_eq_add_neg, add_assoc, add_comm (-_) (∑ e, cur A.cb k e * cur A.cb k e)]

/-- Every bin is real. -/
def Real2 : Prop := ∀ n e, ∃ r : ℝ, A.flat n e = (r : EReal)

theorem sum_real {ι : Type} (s : Finset ι) (f : ι → EReal) (h : ∀ k, ∃ r : ℝ, f k = (r : EReal)) : ∃ r : ℝ, (∑ k ∈ s, f k) = (r : EReal) := by
  choose g hg using h
  exact ⟨∑ k ∈ s, g k, by simp only [hg]; exact (map_sum (⟨⟨Real.toEReal, rfl⟩, EReal.coe_add⟩ : ℝ →+ EReal) g s).symm⟩

theorem square_real (hA : Real2 A) (n : Fin 2048) : ∃ r : ℝ, (∑ e, A.flat n e * A.flat n e) = (r : EReal) :=
  sum_real _ _ fun e => by
    obtain ⟨r, hr⟩ := hA n e
    exact ⟨r * r, by rw [hr, EReal.coe_mul]⟩

/-- A row looked up by its number. -/
theorem gather_row (x : S1024x256.Idx → EReal) (idx : IVec S2048x1 32) (n : Fin 2048) (e : Fin 256) (k : Fin 1024)
    (h : idx (ix2 n 0) = BitVec.ofNat 32 k.val) :
    Host.gather gather_S1024x256_S2048x1_S2048x256_1_0_n_n_0_1_1256 x idx (ix2 n e) = x (ix2 k e) := by
  have hk := k.isLt
  have ht : (BitVec.ofNat 32 k.val).toInt = (k.val : ℤ) := by
    rw [BitVec.toInt_eq_toNat_cond, BitVec.toNat_ofNat, Nat.mod_eq_of_lt (by omega), if_pos (by omega)]
  have hs : ∀ b, gather_S1024x256_S2048x1_S2048x256_1_0_n_n_0_1_1256.siIdx (ix2 n e) b = ix2 n 0 := fun b => by
    funext a
    apply Fin.ext
    match a with
    | ⟨0, _⟩ => rfl
    | ⟨1, _⟩ => obtain ⟨b, hb⟩ := b; have hb : b < 1 := hb; show b = 0; omega
  refine congrArg x (funext fun a => Fin.ext ?_)
  match a with
  | ⟨0, _⟩ =>
    show min (idx (gather_S1024x256_S2048x1_S2048x256_1_0_n_n_0_1_1256.siIdx (ix2 n e) ⟨0, Nat.one_pos⟩)).toInt.toNat 1023 + 0 + 0 = k.val
    rw [hs, h, ht]
    omega
  | ⟨1, _⟩ =>
    show 0 + 0 + e.val = e.val
    omega

theorem topK_head (gt : EReal → EReal → BitVec 1) (x : S2048x1024.Idx → EReal) (h : S2048x1024.Slices (fun _ => 0) S2048x1) (n : Fin 2048) :
    (Host.topK S2048x1 1 gt x h).2 (ix2 n 0)
      = BitVec.ofNat 32 (sortedFrom (fun k k' => gt (x (ix2 n k)) (x (ix2 n k')) == 1#1) (⟨0, by norm_num⟩ : Fin 1024)).val := by
  have hcut : ∀ f : S2048x1024.Idx → BitVec 32, extractStridedSlice S2048x1 (fun _ => 0) f h (ix2 n 0) = f (ix2 n 0) := fun f =>
    congrArg f (funext fun a => Fin.ext (by
      match a with
      | ⟨0, _⟩ => show 0 + n.val = n.val; omega
      | ⟨1, _⟩ => rfl))
  have hd : 1 < S2048x1024.rank := by decide
  have hal : ∀ k : Fin 1024, Shape.Idx.along (s := S2048x1024) (ix2 n 0) ⟨1, hd⟩ k = ix2 n k := fun k =>
    funext fun a => by
      match a with
      | ⟨0, _⟩ => rfl
      | ⟨1, _⟩ => rfl
  have hi : ∀ k : Fin 1024, iotaInDim S2048x1024 32 ⟨1, hd⟩ (Shape.Idx.along (s := S2048x1024) (ix2 n 0) ⟨1, hd⟩ k)
      = BitVec.ofNat 32 k.val := fun k => by rw [hal]; rfl
  unfold Host.topK Host.sort2
  simp only [dif_pos hd]
  refine (hcut _).trans ((hi _).trans ?_)
  exact congrArg (fun w : Fin 1024 → S2048x1024.Idx => BitVec.ofNat 32
    (sortedFrom (fun k k' => gt (x (w k)) (x (w k')) == 1#1) (⟨0, by norm_num⟩ : Fin 1024)).val) (funext hal)

theorem ref_index (hA : Real2 A) (n : Fin 2048) (z : Fin 1) :
    val_main_indices (F := Ideal) A.t0 A.t1 A.w1 A.b1 A.w2 A.b2 A.cb (ix2 n z) = BitVec.ofNat 32 (A.idx n).val := by
  obtain ⟨r, hr⟩ := square_real A hA n
  have hz : z = 0 := Subsingleton.elim _ _
  subst hz
  have key := sortedFrom_zero (n := 1024) (by norm_num)
    (fun k => (r : EReal) + score (cur A.cb) (A.flat n) k)
    (fun k k' => FloatOps.cmpfTotal (F := Ideal) (φ := .f32) .gt (val_main_v139 (F := Ideal) A.t0 A.t1 A.w1 A.b1 A.w2 A.b2 A.cb (ix2 n k))
      (val_main_v139 (F := Ideal) A.t0 A.t1 A.w1 A.b1 A.w2 A.b2 A.cb (ix2 n k')) == 1#1) (fun a b => by
      rw [ref_dist, ref_dist, dist_score A n r hr, dist_score A n r hr]
      generalize (r : EReal) + score (cur A.cb) (A.flat n) a = x
      generalize (r : EReal) + score (cur A.cb) (A.flat n) b = y
      show (Ideal.cmp .ogt (-x) (-y) == 1#1) = true ↔ x < y
      unfold Ideal.cmp
      rw [← EReal.neg_lt_neg_iff (a := y) (b := x)]
      by_cases h : -y < -x <;> simp [h])
  have key2 := (key.of_add_real r fun k => rfl).eq_least
  unfold val_main_indices
  rw [topK_head]
  rw [key2]
  rfl

theorem ofNat_toInt (k : Fin 1024) : (BitVec.ofNat 32 k.val).toInt = (k.val : ℤ) := by
  have hk := k.isLt
  rw [BitVec.toInt_eq_toNat_cond, BitVec.toNat_ofNat, Nat.mod_eq_of_lt (by omega), if_pos (by omega)]

theorem ref_take (hA : Real2 A) (n : Fin 2048) (z : Fin 1) :
    val_main_call1_v5 (F := Ideal) A.t0 A.t1 A.w1 A.b1 A.w2 A.b2 A.cb (ix2 n z) = BitVec.ofNat 32 (A.idx n).val := by
  pointwise [val_main_call1_v5, val_main_call1_v4, val_main_call1_v3, val_main_call1_v2, val_main_call1_v1, val_main_call1_v0,
    val_main_call1_c, val_main_call1_c_0, val_main_v140]
  rw [ref_index A hA]
  have hs : IntOp.cmpi CmpIPredicate.slt (BitVec.ofNat 32 (A.idx n).val) 0#32 = 0#1 := by
    have := ofNat_toInt (A.idx n)
    have h0 : ¬((A.idx n).val : ℤ) < 0 := by omega
    simp [IntOp.cmpi, BitVec.slt, this, h0]
  rw [hs]
  exact ValueIdx.select_zero _ _

theorem ref_bounds (hA : Real2 A) (n : Fin 2048) (z : Fin 1) :
    val_main_call1_v11 (F := Ideal) A.t0 A.t1 A.w1 A.b1 A.w2 A.b2 A.cb (ix2 n z) = 1#1 := by
  pointwise [val_main_call1_v11, val_main_call1_v10, val_main_call1_v9, val_main_call1_v8, val_main_call1_v7, val_main_call1_v6,
    val_main_call1_c_1, val_main_call1_c_2]
  rw [ref_take A hA]
  have hk := (A.idx n).isLt
  have ht := ofNat_toInt (A.idx n)
  have h0 : (0 : ℤ) ≤ (A.idx n).val := by omega
  have h1 : ((A.idx n).val : ℤ) ≤ 1023 := by omega
  simp [IntOp.cmpi, IntOp.andi, BitVec.sle, ht, h0, h1]

theorem ref_inside (hA : Real2 A) (j : S2048.Idx) :
    val_main_call1_v12 (F := Ideal) A.t0 A.t1 A.w1 A.b1 A.w2 A.b2 A.cb j = 1#1 := by
  refine Host.reduce_andi_one _ _ _ _ j rfl fun i => ?_
  rw [eq_ix2 i]
  exact ref_bounds A hA _ _

theorem ref_code (hA : Real2 A) (n : Fin 2048) (e : Fin 256) :
    val_main_v142 (F := Ideal) A.t0 A.t1 A.w1 A.b1 A.w2 A.b2 A.cb (ix2 n e) = A.code n e := by
  pointwise [val_main_v142, val_main_call1_v14, val_main_call1_v13, val_main_call1_v15]
  rw [gather_row A.cb _ n e (A.idx n) (ref_take A hA n 0), ref_inside A hA]
  exact ValueIdx.select_one _ _

theorem ref_pick (hA : Real2 A) (n : Fin 2048) (k : Fin 1024) :
    val_main_v141 (F := Ideal) A.t0 A.t1 A.w1 A.b1 A.w2 A.b2 A.cb (ix2 n k) = if k = A.idx n then ((1 : ℝ) : EReal) else 0 := by
  pointwise [val_main_v141, val_main_call0_v4, val_main_call0_v3, val_main_call0_v2, val_main_call0_v1, val_main_call0_v0, val_main_v140]
  rw [ref_index A hA]
  generalize A.idx n = l
  have hk := k.isLt
  have hl := l.isLt
  by_cases h : k = l
  · subst h
    rw [if_pos rfl]
    simp [IntOp.cmpi, FloatOps.uitofp]
  · rw [if_neg h]
    have : BitVec.ofNat 32 l.val ≠ BitVec.ofNat 32 k.val := fun he => h (Fin.ext (by
      have := congrArg BitVec.toNat he
      rw [BitVec.toNat_ofNat, BitVec.toNat_ofNat, Nat.mod_eq_of_lt (by omega), Nat.mod_eq_of_lt (by omega)] at this
      exact this.symm))
    have hb : (BitVec.ofNat 32 l.val == BitVec.ofNat 32 k.val) = false := beq_eq_false_iff_ne.2 this
    simp [IntOp.cmpi, FloatOps.uitofp, hb]

end Vq
-- ==== Proof.Weights.lean ====
/-
  The bilinear weights: what the reference computes for a coarse and a fine place is the weight `up`, a nonnegative real.
-/
module

public import proofs.«01_k».proof.Proof.Gen.ReferenceIdeal.Read
public import proofs.«01_k».proof.Proof.Spec

@[expose] public section

noncomputable section

namespace Vq

open Idealize.ShloMosaic Cert.ReferenceIdeal Cert.ReferenceIdeal.Read

/-- Where fine place `o` lies on the coarse axis. -/
def sR (o : Fin 14) : ℝ := (o.val + 1 / 2) * (9586981 / 33554432) - 1 / 2

/-- The unnormalised weight, as a real. -/
def triR (o : Fin 14) (i : Fin 4) : ℝ := max 0 (1 - |sR o - i.val|)

theorem coe_max' (a b : ℝ) : ((max a b : ℝ) : EReal) = max (a : EReal) b := EReal.coe_strictMono.monotone.map_max

theorem place_real (o : Fin 14) : (((o.val : ℝ) : EReal) + half) * ratio - half = (sR o : EReal) := by
  rw [half_eq, ratio_eq, ← EReal.coe_add, ← EReal.coe_mul, ← EReal.coe_sub]
  rfl

theorem tri_real (o : Fin 14) (i : Fin 4) : tri o i = (triR o i : EReal) := by
  unfold tri triR
  rw [place_real, ← EReal.coe_sub, ← EReal.coe_neg, ← coe_max', ← EReal.coe_one, ← EReal.coe_sub, ← EReal.coe_zero, ← coe_max']
  rfl

theorem triR_nonneg (o : Fin 14) (i : Fin 4) : 0 ≤ triR o i := le_max_left _ _

/-- Some coarse place lies within one half of every fine place. -/
theorem sR_near (o : Fin 14) : ∃ i : Fin 4, |sR o - i.val| ≤ 1 / 2 := by
  fin_cases o
  · exact ⟨0, by rw [abs_le]; norm_num [sR]⟩
  · exact ⟨0, by rw [abs_le]; norm_num [sR]⟩
  · exact ⟨0, by rw [abs_le]; norm_num [sR]⟩
  · exact ⟨1, by rw [abs_le]; norm_num [sR]⟩
  · exact ⟨1, by rw [abs_le]; norm_num [sR]⟩
  · exact ⟨1, by rw [abs_le]; norm_num [sR]⟩
  · exact ⟨1, by rw [abs_le]; norm_num [sR]⟩
  · exact ⟨2, by rw [abs_le]; norm_num [sR]⟩
  · exact ⟨2, by rw [abs_le]; norm_num [sR]⟩
  · exact ⟨2, by rw [abs_le]; norm_num [sR]⟩
  · exact ⟨3, by rw [abs_le]; norm_num [sR]⟩
  · exact ⟨3, by rw [abs_le]; norm_num [sR]⟩
  · exact ⟨3, by rw [abs_le]; norm_num [sR]⟩
  · exact ⟨3, by rw [abs_le]; norm_num [sR]⟩

/-- The sum of the unnormalised weights, as a real. -/
def sumR (o : Fin 14) : ℝ := ∑ i, triR o i

theorem sum_tri (o : Fin 14) : (∑ i, tri o i) = (sumR o : EReal) := by
  simp only [tri_real]
  exact (map_sum (⟨⟨Real.toEReal, rfl⟩, EReal.coe_add⟩ : ℝ →+ EReal) (triR o) Finset.univ).symm

theorem sumR_ge (o : Fin 14) : 1 / 2 ≤ sumR o := by
  obtain ⟨i, hi⟩ := sR_near o
  refine le_trans ?_ (Finset.single_le_sum (f := triR o) (fun i _ => triR_nonneg o i) (Finset.mem_univ i))
  exact le_trans (by linarith) (le_max_right _ _)

/-- The weight, as a real. -/
def upR (o : Fin 14) (i : Fin 4) : ℝ := triR o i * (1 / sumR o)

theorem up_real (o : Fin 14) (i : Fin 4) : up o i = (upR o i : EReal) := by
  have := sumR_ge o
  unfold up
  rw [sum_tri, tri_real, Ideal.div_coe (by linarith), ← EReal.coe_mul]
  rfl

theorem upR_nonneg (o : Fin 14) (i : Fin 4) : 0 ≤ upR o i := by
  have := sumR_ge o
  exact mul_nonneg (triR_nonneg o i) (by positivity)

theorem absf_real (x : ℝ) : FloatOps.absf (F := Ideal) (φ := .f32) (x : EReal) = ((|x| : ℝ) : EReal) := by
  show max (x : EReal) (-(x : EReal)) = _
  rw [← EReal.coe_neg, ← coe_max']
  rfl

theorem sR_bounds (o : Fin 14) : -(1 / 2) ≤ sR o ∧ sR o ≤ 7 / 2 := by
  have h : ((o.val : ℕ) : ℝ) ≤ 13 := by exact_mod_cast Nat.le_of_lt_succ o.isLt
  have h0 : (0 : ℝ) ≤ (o.val : ℝ) := Nat.cast_nonneg _
  unfold sR
  constructor <;> linarith

theorem ref_place (o : Fin 14) : val_main_v187 (F := Ideal) (ix1 o) = (sR o : EReal) := by
  pointwise [val_main_v179, val_main_cst_62, val_main_v180, val_main_v181, val_main_cst_63, val_main_v182, val_main_v183, val_main_cst_64,
    val_main_v184, val_main_v185, val_main_cst_65, val_main_v186, val_main_v187]
  rw [sitofp_ofNat _ (by have := o.isLt; omega)]
  exact place_real o

theorem ref_tri (i : Fin 4) (o : Fin 14) : val_main_v202 (F := Ideal) (ix2 i o) = tri o i := by
  pointwise [val_main_v188, val_main_v189, val_main_v190, val_main_v191, val_main_v192, val_main_v193, val_main_v194, val_main_v195,
    val_main_v196, val_main_v197, val_main_v198, val_main_cst_66, val_main_v199, val_main_v200, val_main_cst_67, val_main_v201,
    val_main_v202, val_main_v178, val_main_cst_60, val_main_cst_61]
  have hone : id (maximumf (F := Ideal) (constant S_ FTy.f32 0x3E924925#32) (constant S_ FTy.f32 0x3F800000#32)) ix0 = ((1 : ℝ) : EReal) := by
    show max ratio (Ideal.ofBits .f32 0x3F800000#32) = _
    rw [ratio_eq, one_eq, ← coe_max', max_eq_right (by norm_num)]
  rw [hone, sitofp_ofNat _ (by have := i.isLt; omega), ref_place, ← EReal.coe_sub, absf_real, Ideal.div_coe (by norm_num), ← EReal.coe_mul,
    absf_real, tri_real, ← EReal.coe_one, ← EReal.coe_sub, ← EReal.coe_zero, ← coe_max', div_one, mul_one, abs_abs]
  rfl

theorem ref_up (i : Fin 4) (o : Fin 14) : val_main_v225 (F := Ideal) (ix2 i o) = up o i := by
  pointwise [val_main_cst_68, val_main_v203, val_main_v204, val_main_v205, val_main_cst_69, val_main_v206, val_main_v207, val_main_cst_70,
    val_main_v208, val_main_v209, val_main_cst_71, val_main_v210, val_main_v211, val_main_v212, val_main_v213, val_main_v214,
    val_main_cst_72, val_main_v215, val_main_v216, val_main_cst_73, val_main_v217, val_main_v218, val_main_cst_74, val_main_v219,
    val_main_v220, val_main_v221, val_main_v222, val_main_v223, val_main_cst_75, val_main_v224, val_main_v225]
  simp only [ref_tri, ref_place]
  have hlo : Ideal.ofBits .f32 0xBF000000#32 = ((-(1 / 2) : ℝ) : EReal) := by
    simp [Ideal.ofBits, Ideal.ieee, -EReal.coe_mul, -EReal.coe_neg]; norm_num
  have hhi : Ideal.ofBits .f32 0x40600000#32 = ((7 / 2 : ℝ) : EReal) := by
    simp [Ideal.ofBits, Ideal.ieee, -EReal.coe_mul]; norm_num
  have hth : Ideal.ofBits .f32 0x38FA0000#32 = ((125 / 1048576 : ℝ) : EReal) := by
    simp [Ideal.ofBits, Ideal.ieee, -EReal.coe_mul]; norm_num
  obtain ⟨h1, h2⟩ := sR_bounds o
  have h3 := sumR_ge o
  unfold up
  rw [hlo, hhi, hth, sum_tri, absf_real, abs_of_nonneg (by linarith), if_pos (EReal.coe_lt_coe_iff.2 (by linarith)),
    if_pos (by rw [← EReal.coe_zero]; exact fun h => by have := EReal.coe_eq_coe_iff.1 h; linarith),
    decide_eq_true (EReal.coe_le_coe_iff.2 h1), decide_eq_true (EReal.coe_le_coe_iff.2 h2)]
  rfl

/-- The second table is the first. -/
theorem ref_up' (i : Fin 4) (o : Fin 14) : val_main_v273 (F := Ideal) (ix2 i o) = up o i := by
  have e : val_main_v273 (F := Ideal) = val_main_v225 (F := Ideal) := rfl
  rw [e]
  exact ref_up i o

end Vq
-- ==== Proof.RefOut.lean ====
/-
  The reference's four results, as functions of the arguments.
-/
module

public import proofs.«01_k».proof.Proof.RefIdx
public import proofs.«01_k».proof.Proof.Weights
public import proofs.«01_k».proof.Proof.Sums

@[expose] public section

noncomputable section

namespace Vq

open Idealize.ShloMosaic Cert.ReferenceIdeal Cert.ReferenceIdeal.Read

variable (A : Args)

theorem ref_indices (hA : Real2 A) (n : Fin 2048) (z : Fin 1) :
    val_main_v160 (F := Ideal) A.t0 A.t1 A.w1 A.b1 A.w2 A.b2 A.cb (ix2 n z) = BitVec.ofNat 32 (A.idx n).val := by
  pointwise [val_main_v160, val_main_v140]
  exact ref_index A hA n 0

theorem ref_com (hA : Real2 A) (z z' : Fin 1) : val_main_v279 (F := Ideal) A.t0 A.t1 A.w1 A.b1 A.w2 A.b2 A.cb (ix2 z z') = A.com := by
  pointwise [val_main_v279, val_main_v143, val_main_v144, val_main_cst_52, val_main_v145, val_main_cst_53, val_main_v146]
  simp only [ref_code A hA, ref_flat]
  have h : Ideal.ofBits .f32 0x49000000#32 = ((524288 : ℝ) : EReal) := by
    simp [Ideal.ofBits, Ideal.ieee, -EReal.coe_mul]; norm_num
  rw [h, Ideal.div_coe (by norm_num)]
  rfl

theorem ref_perp (hA : Real2 A) (z z' : Fin 1) : val_main_v278 (F := Ideal) A.t0 A.t1 A.w1 A.b1 A.w2 A.b2 A.cb (ix2 z z') = A.perp := by
  pointwise [val_main_v278, val_main_cst_54, val_main_v149, val_main_cst_55, val_main_v150, val_main_v151, val_main_cst_56, val_main_v152, val_main_v153,
    val_main_v154, val_main_v155, val_main_cst_57, val_main_v156, val_main_v157, val_main_v158]
  simp only [ref_pick A hA]
  have h : Ideal.ofBits .f32 0x45000000#32 = ((2048 : ℝ) : EReal) := by
    simp [Ideal.ofBits, Ideal.ieee, -EReal.coe_mul]; norm_num
  simp only [h, Ideal.div_coe (show (2048 : ℝ) ≠ 0 by norm_num)]
  rfl

/-- The looked-up vector, written as the row and the way from it. -/
theorem ref_straight (hA : Real2 A) (n : Fin 2048) (e : Fin 256) : val_main_v148 (F := Ideal) A.t0 A.t1 A.w1 A.b1 A.w2 A.b2 A.cb (ix2 n e) = A.code n e := by
  pointwise [val_main_v148, val_main_v147]
  rw [ref_code A hA, ref_flat]
  obtain ⟨r, hr⟩ := hA n e
  rw [hr, sub_eq_add_neg, add_comm (A.code n e), ← add_assoc, ← EReal.coe_neg, ← EReal.coe_add, add_neg_cancel, EReal.coe_zero, zero_add]

theorem ref_y (hA : Real2 A) (b : Fin 128) (c : Fin 768) (i j : Fin 4) :
    val_main_v177 (F := Ideal) A.t0 A.t1 A.w1 A.b1 A.w2 A.b2 A.cb A.dw1 A.db1 A.dw2 A.db2 (ix4 b c i j) = A.y ⟨b.val * 16 + i.val * 4 + j.val, by omega⟩ c := by
  pointwise [val_main_v161, val_main_v162, val_main_v163, val_main_v164, val_main_cst_58, val_main_v165, val_main_v166, val_main_v167,
    val_main_cst_59, val_main_v168, val_main_v169, val_main_v170, val_main_v171, val_main_v172, val_main_v173, val_main_v174,
    val_main_v175, val_main_v176, val_main_v177, val_main_v159]
  simp only [ref_straight A hA]
  simp only [← add_assoc]
  exact congrArg (· + A.db2 (ix1 c)) (Finset.sum_congr rfl fun k _ => congrArg (· * A.dw2 (ix2 k c)) (gelu_ref _))

theorem ref_dec (hA : Real2 A) (b : Fin 128) (h w : Fin 14) (c : Fin 768) :
    val_main_v277 (F := Ideal) A.t0 A.t1 A.w1 A.b1 A.w2 A.b2 A.cb A.dw1 A.db1 A.dw2 A.db2 (ix4 b h w c) = A.dec b h w c := by
  pointwise [val_main_v274, val_main_v275, val_main_v276, val_main_v277]
  simp only [ref_y A hA, ref_up, ref_up']
  unfold Args.dec
  rw [Finset.sum_comm' (t' := Finset.univ) (s' := fun _ => Finset.univ) (by simp)]
  refine Finset.sum_congr rfl fun j _ => ?_
  rw [mul_comm, up_real w j, coe_mul_sum _ _ (upR_nonneg w j)]
  refine Finset.sum_congr rfl fun i _ => ?_
  rw [← mul_assoc, mul_comm ((upR w j : ℝ) : EReal)]

end Vq
-- ==== Proof.Finite.lean ====
/-
  Finite encoder arguments make every bin real.
-/
module

public import proofs.«01_k».proof.Defs
public import proofs.«01_k».proof.Proof.RefIdx
public import proofs.«01_k».proof.Proof.Pay
public import proofs.«01_k».proof.Proof.Step
public import Idealize.ShloMosaic.Lib.Affine
public import Idealize.ShloMosaic.Lib.ReduceAll

@[expose] public section

noncomputable section

open scoped BigOperators

namespace Vq

open Idealize.ShloMosaic Idealize.SL.Sem

/-- A value that is neither infinity. -/
def IsReal (x : EReal) : Prop := ∃ r : ℝ, x = (r : EReal)

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.sub {x y : EReal} (hx : IsReal x) (hy : IsReal y) : IsReal (x - y) := by
  obtain ⟨r, rfl⟩ := hx
  obtain ⟨s, rfl⟩ := hy
  exact ⟨r - s, (EReal.coe_sub r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.sum {ι : Type} (s : Finset ι) {f : ι → EReal} (h : ∀ k, IsReal (f k)) : IsReal (∑ k ∈ s, f k) := sum_real s f h

theorem IsReal.of_abs {x : EReal} (h : Ideal.cmp .olt (max x (-x)) (Ideal.ofBits .f32 0x7F800000#32) = 1#1) : IsReal x := by
  rw [top_eq] at h
  induction x with
  | bot => simp [Ideal.cmp] at h
  | top => simp [Ideal.cmp] at h
  | coe r => exact ⟨r, rfl⟩

theorem erf_real {x : EReal} (hx : IsReal x) : IsReal (Ideal.erf x) := by
  obtain ⟨r, rfl⟩ := hx
  exact ⟨_, rfl⟩

theorem rsqrt2_real : IsReal rsqrt2 :=
  ⟨11863283 / 16777216, by simp [rsqrt2, Ideal.ofBits, Ideal.ieee, -EReal.coe_mul]; norm_num⟩

theorem gelu_real {x : EReal} (hx : IsReal x) : IsReal (gelu x) :=
  (IsReal.mul ⟨_, half_eq⟩ hx).mul (IsReal.add ⟨1, rfl⟩ (erf_real (hx.mul rsqrt2_real)))

theorem mlp_real {D H E : ℕ} {w1 : Fin D → Fin H → EReal} {b1 : Fin H → EReal} {w2 : Fin H → Fin E → EReal} {b2 : Fin E → EReal}
    {x : Fin D → EReal} (h1 : ∀ d j, IsReal (w1 d j)) (h2 : ∀ j, IsReal (b1 j)) (h3 : ∀ j e, IsReal (w2 j e)) (h4 : ∀ e, IsReal (b2 e))
    (hx : ∀ d, IsReal (x d)) (e : Fin E) : IsReal (mlp w1 b1 w2 b2 x e) :=
  (IsReal.sum _ fun j => (gelu_real ((IsReal.sum _ fun d => (hx d).mul (h1 d j)).add (h2 j))).mul (h3 j e)).add (h4 e)

theorem bins_real (A : Args) (h0 : ∀ i, IsReal (A.t0 i)) (h1 : ∀ i, IsReal (A.t1 i)) (h2 : ∀ i, IsReal (A.w1 i)) (h3 : ∀ i, IsReal (A.b1 i))
    (h4 : ∀ i, IsReal (A.w2 i)) (h5 : ∀ i, IsReal (A.b2 i)) : Real2 A := fun _ e =>
  (IsReal.sum _ fun _ => IsReal.sum _ fun _ =>
    mlp_real (fun _ _ => h2 _) (fun _ => h3 _) (fun _ _ => h4 _) (fun _ => h5 _) (fun _ => (h1 _).sub (h0 _)) e).mul ⟨_, rfl⟩

/-- The shape relations the precondition states. -/
theorem preFacts : Cert.Pre_encoder_real.Facts where
  bcast_S_S128x14x14x768 := by decide
  reducesTo_S128x14x14x768_S_d0_1_2_3 := by decide
  h_S_ := by decide
  bcast_S_S768x512 := by decide
  reducesTo_S768x512_S_d0_1 := by decide
  bcast_S_S512 := by decide
  reducesTo_S512_S_d0 := by decide
  bcast_S_S512x256 := by decide
  reducesTo_S512x256_S_d0_1 := by decide
  bcast_S_S256 := by decide
  reducesTo_S256_S_d0 := by decide

/-- An array all of whose magnitudes are below the infinity holds reals. -/
theorem all_real {s u : Shape} {axes : List (Fin s.rank)} (x : s.Idx → EReal) (init : u.Idx → BitVec 1)
    (h : s.ReducesTo axes Cert.Pre_encoder_real.S_) (hu : 0 < u.numel) (j : Cert.Pre_encoder_real.S_.Idx)
    (e : Host.reduce IntOp.andi (fun i => Ideal.cmp .olt (max (x i) (-(x i))) (Ideal.ofBits .f32 0x7F800000#32)) init h hu j = 1#1)
    (i : s.Idx) : IsReal (x i) := by
  haveI : Subsingleton Cert.Pre_encoder_real.S_.Idx := ⟨fun a b => funext fun k => k.elim0⟩
  exact IsReal.of_abs (Host.reduce_andi_all _ init h hu j e i)

theorem real_of_pre (m : (l : Loc Cert.KernelIdeal.nD Cert.KernelIdeal.τ Cert.KernelIdeal.sig) → Buf (Elt Ideal) l)
    (h : Cert.Pre_KernelIdeal_encoder_real (hPre_encoder_real := preFacts) m) (c : Dev Cert.KernelIdeal.nD) : Real2 (args m c) := by
  have h := congrFun (h c) (fun k => k.elim0)
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact bins_real (args m c) (all_real _ _ _ _ _ e0) (all_real _ _ _ _ _ e1) (all_real _ _ _ _ _ e2) (all_real _ _ _ _ _ e3)
    (all_real _ _ _ _ _ e4) (all_real _ _ _ _ _ e5)

end Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Kernel
public import proofs.«01_k».proof.Proof.RefOut
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference program's frame: its run, the results forgotten, and no semaphore to be left raised. -/
theorem ref_frame : Cert.quiescent_ReferenceIdeal (hReferenceIdeal := Cert.ReferenceIdeal.Gen.facts) := fun m g _ =>
  (θ_run _ _ _).mono (fun r h => ⟨fun c => (h c).2.2.2.2, sem_eq_zero_of_no_sems (by decide) r.2⟩) (Cert.ReferenceIdeal.Value.run m g)

/-- The reference's arguments on a device. -/
def refArgs (m' : (l : Loc Cert.ReferenceIdeal.nD Cert.ReferenceIdeal.τ Cert.ReferenceIdeal.sig) → Buf (Elt Ideal) l)
    (c : Dev Cert.ReferenceIdeal.nD) : Vq.Args where
  t0 := m' ((c.tc : Thread Cert.ReferenceIdeal.nD Cert.ReferenceIdeal.τ).loc Cert.ReferenceIdeal.main_arg0)
  t1 := m' ((c.tc : Thread Cert.ReferenceIdeal.nD Cert.ReferenceIdeal.τ).loc Cert.ReferenceIdeal.main_arg1)
  w1 := m' ((c.tc : Thread Cert.ReferenceIdeal.nD Cert.ReferenceIdeal.τ).loc Cert.ReferenceIdeal.main_arg2)
  b1 := m' ((c.tc : Thread Cert.ReferenceIdeal.nD Cert.ReferenceIdeal.τ).loc Cert.ReferenceIdeal.main_arg3)
  w2 := m' ((c.tc : Thread Cert.ReferenceIdeal.nD Cert.ReferenceIdeal.τ).loc Cert.ReferenceIdeal.main_arg4)
  b2 := m' ((c.tc : Thread Cert.ReferenceIdeal.nD Cert.ReferenceIdeal.τ).loc Cert.ReferenceIdeal.main_arg5)
  cb := m' ((c.tc : Thread Cert.ReferenceIdeal.nD Cert.ReferenceIdeal.τ).loc Cert.ReferenceIdeal.main_arg6)
  dw1 := m' ((c.tc : Thread Cert.ReferenceIdeal.nD Cert.ReferenceIdeal.τ).loc Cert.ReferenceIdeal.main_arg7)
  db1 := m' ((c.tc : Thread Cert.ReferenceIdeal.nD Cert.ReferenceIdeal.τ).loc Cert.ReferenceIdeal.main_arg8)
  dw2 := m' ((c.tc : Thread Cert.ReferenceIdeal.nD Cert.ReferenceIdeal.τ).loc Cert.ReferenceIdeal.main_arg9)
  db2 := m' ((c.tc : Thread Cert.ReferenceIdeal.nD Cert.ReferenceIdeal.τ).loc Cert.ReferenceIdeal.main_arg10)

/-- From finite encoder arguments both programs leave the same four arrays. -/
theorem same_results : Cert.algebraic_KernelIdeal_ReferenceIdeal_pre_encoder_real (hKernelIdeal := Cert.KernelIdeal.Gen.facts)
    (hReferenceIdeal := Cert.ReferenceIdeal.Gen.facts) (hPre_encoder_real := Vq.preFacts) := by
  intro m g m' g' hpre hargs
  have hA : ∀ c, Vq.Real2 (Vq.args m c) := Vq.real_of_pre m hpre
  have hsame : ∀ c, refArgs m' c = Vq.args m c := fun c => by
    obtain ⟨h0, h1, h2, h3, h4, h5, h6, h7, h8, h9, h10⟩ := hargs c
    unfold refArgs
    rw [h0, h1, h2, h3, h4, h5, h6, h7, h8, h9, h10]
    rfl
  refine ⟨fun c => Cert.KernelIdeal.Value.G12 m c, fun c => Cert.KernelIdeal.Value.G14 m c, fun c => Cert.KernelIdeal.Value.G15 m c,
    fun c => Cert.KernelIdeal.Value.G13 m c, ?_, ?_⟩
  · exact (θ_run _ _ _).mono (fun r h c => by
      obtain ⟨e0, e1, e2, e3, e⟩ := h c
      exact ⟨e0, e2, e3, e1, e⟩) (Cert.KernelIdeal.Value.run m g)
  · refine (θ_run _ _ _).mono (fun r h c => ?_) (Cert.ReferenceIdeal.Value.run m' g')
    obtain ⟨e0, e1, e2, e3, e⟩ := h c
    have hR : Vq.Real2 (refArgs m' c) := by rw [hsame c]; exact hA c
    refine ⟨e0.trans ((Cert.ReferenceIdeal.Read.val_main_v277_eq _).trans (funext fun i => ?_)),
      e1.trans ((Cert.ReferenceIdeal.Read.val_main_v278_eq _).trans (funext fun i => ?_)),
      e2.trans ((Cert.ReferenceIdeal.Read.val_main_v279_eq _).trans (funext fun i => ?_)),
      e3.trans ((Cert.ReferenceIdeal.Read.val_main_v160_eq _).trans (funext fun i => ?_)), e⟩
    · obtain ⟨b, y, x, w, rfl⟩ : ∃ b y x w, i = ix4 b y x w := ⟨_, _, _, _, eq_ix4 i⟩
      refine (Vq.ref_dec (refArgs m' c) hR b y x w).trans ?_
      rw [hsame c]
      exact (Vq.dec_eq m c b y x w).symm
    · obtain ⟨a, b, rfl⟩ : ∃ a b, i = ix2 a b := ⟨_, _, eq_ix2 i⟩
      refine (Vq.ref_perp (refArgs m' c) hR a b).trans ?_
      rw [hsame c]
      exact (Vq.perp_eq m c a b).symm
    · obtain ⟨a, b, rfl⟩ : ∃ a b, i = ix2 a b := ⟨_, _, eq_ix2 i⟩
      refine (Vq.ref_com (refArgs m' c) hR a b).trans ?_
      rw [hsame c]
      exact (Vq.com_eq m c a b).symm
    · obtain ⟨a, b, rfl⟩ : ∃ a b, i = ix2 a b := ⟨_, _, eq_ix2 i⟩
      refine (Vq.ref_indices (refArgs m' c) hR a b).trans ?_
      rw [hsame c]
      exact (Vq.idx_eq m c a b).symm

theorem claim : Cert.Claim := ⟨Cert.Kernel.Gen.facts, Cert.KernelIdeal.Gen.facts, Cert.ReferenceIdeal.Gen.facts, Vq.preFacts,
  fun m ρ _ => Cert.Kernel.Gen.frame m ρ, fun m ρ _ => Cert.KernelIdeal.Gen.frame m ρ, fun m ρ _ => Cert.KernelIdeal.Gen.frame m ρ,
  ref_frame, fun m g _ => ref_frame m g trivial, trivial, same_results⟩

end Cert.Proof

end
